-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_logits.lean ====
abbrev S8x16x2048x64 : Shape := ⟨4, ![8, 16, 2048, 64]⟩
abbrev S8x16x2048 : Shape := ⟨3, ![8, 16, 2048]⟩
abbrev S_ : Shape := ⟨0, ![]⟩
abbrev S8x16x2048x1 : Shape := ⟨4, ![8, 16, 2048, 1]⟩

class Facts : Prop where
  bcast_S_S8x16x2048x64 : S_.BroadcastsInDim S8x16x2048x64 (![] : Fin 0 → Fin S8x16x2048x64.rank)
  bcast_S8x16x2048_S8x16x2048x1_0_1_2 : S8x16x2048.BroadcastsInDim S8x16x2048x1 (![0, 1, 2] : Fin 3 → Fin S8x16x2048x1.rank)
  bcast_S_S8x16x2048x1 : S_.BroadcastsInDim S8x16x2048x1 (![] : Fin 0 → Fin S8x16x2048x1.rank)
  bcast_S8x16x2048x1_S8x16x2048x64_0_1_2_3 : S8x16x2048x1.BroadcastsInDim S8x16x2048x64 (![0, 1, 2, 3] : Fin 4 → Fin S8x16x2048x64.rank)

variable [Facts]

def fn {F : FTy → Type} [FloatOps F] (main_arg0 : FVec F S8x16x2048x64 .f32) (main_arg1 : FVec F S8x16x2048x64 .f32) (main_arg2 : FVec F S8x16x2048x64 .f32) (main_arg3 : FVec F S8x16x2048 .f32) : IVec S8x16x2048x64 1 :=
  let main_v0 : FVec F S8x16x2048x64 .f32 := Host.absf main_arg0
  let main_cst : FVec F S_ .f32 := constant S_ .f32 0x7F800000#32
  let main_v1 : FVec F S8x16x2048x64 .f32 := broadcastInDim S8x16x2048x64 ![] bcast_S_S8x16x2048x64 main_cst
  let main_v2 : IVec S8x16x2048x64 1 := cmpf .olt main_v0 main_v1
  let main_v3 : FVec F S8x16x2048x64 .f32 := Host.absf main_arg1
  let main_cst_0 : FVec F S_ .f32 := constant S_ .f32 0x7F800000#32
  let main_v4 : FVec F S8x16x2048x64 .f32 := broadcastInDim S8x16x2048x64 ![] bcast_S_S8x16x2048x64 main_cst_0
  let main_v5 : IVec S8x16x2048x64 1 := cmpf .olt main_v3 main_v4
  let main_v6 : IVec S8x16x2048x64 1 := andi main_v2 main_v5
  let main_v7 : FVec F S8x16x2048 .f32 := Host.absf main_arg3
  let main_v8 : FVec F S8x16x2048x1 .f32 := broadcastInDim S8x16x2048x1 ![0, 1, 2] bcast_S8x16x2048_S8x16x2048x1_0_1_2 main_v7
  let main_cst_1 : FVec F S_ .f32 := constant S_ .f32 0x7F800000#32
  let main_v9 : FVec F S8x16x2048x1 .f32 := broadcastInDim S8x16x2048x1 ![] bcast_S_S8x16x2048x1 main_cst_1
  let main_v10 : IVec S8x16x2048x1 1 := cmpf .olt main_v8 main_v9
  let main_v11 : IVec S8x16x2048x64 1 := broadcastInDim S8x16x2048x64 ![0, 1, 2, 3] bcast_S8x16x2048x1_S8x16x2048x64_0_1_2_3 main_v10
  let main_v12 : IVec S8x16x2048x64 1 := andi main_v6 main_v11
  main_v12
-- ==== Kernel.lean ====
abbrev S8x16x2048x64 : Shape := ⟨4, ![8, 16, 2048, 64]⟩
abbrev S8x16x2048 : Shape := ⟨3, ![8, 16, 2048]⟩
abbrev S_ : Shape := ⟨0, ![]⟩
abbrev S8x16x2048x3 : Shape := ⟨4, ![8, 16, 2048, 3]⟩
abbrev S8x16x2048x58 : Shape := ⟨4, ![8, 16, 2048, 58]⟩
abbrev S8x16x2048x1 : Shape := ⟨4, ![8, 16, 2048, 1]⟩
abbrev S8x16x2048x128 : Shape := ⟨4, ![8, 16, 2048, 128]⟩
abbrev S8x16x8x256x128 : Shape := ⟨5, ![8, 16, 8, 256, 128]⟩
abbrev S8x16x8x128x256 : Shape := ⟨5, ![8, 16, 8, 128, 256]⟩
abbrev S8x16x2048x15 : Shape := ⟨4, ![8, 16, 2048, 15]⟩
abbrev S8x16x2048x80 : Shape := ⟨4, ![8, 16, 2048, 80]⟩
abbrev S8x16x8x256x80 : Shape := ⟨5, ![8, 16, 8, 256, 80]⟩
abbrev S8x16x8x80x256 : Shape := ⟨5, ![8, 16, 8, 80, 256]⟩
abbrev S8x2048x1024 : Shape := ⟨3, ![8, 2048, 1024]⟩
abbrev S1x16x1x128x256 : Shape := ⟨5, ![1, 16, 1, 128, 256]⟩
abbrev S1x16x2048x128 : Shape := ⟨4, ![1, 16, 2048, 128]⟩
abbrev S1x16x8x80x256 : Shape := ⟨5, ![1, 16, 8, 80, 256]⟩
abbrev S1x256x1024 : Shape := ⟨3, ![1, 256, 1024]⟩
abbrev S16x80x256 : Shape := ⟨3, ![16, 80, 256]⟩
abbrev S1x1x1x80x256 : Shape := ⟨5, ![1, 1, 1, 80, 256]⟩
abbrev S80x256 : Shape := ⟨2, ![80, 256]⟩
abbrev S256x256 : Shape := ⟨2, ![256, 256]⟩
abbrev S1x256 : Shape := ⟨2, ![1, 256]⟩
abbrev S1x1x256x80 : Shape := ⟨4, ![1, 1, 256, 80]⟩
abbrev S256x80 : Shape := ⟨2, ![256, 80]⟩
abbrev S256 : Shape := ⟨1, ![256]⟩
abbrev S1x80x256 : Shape := ⟨3, ![1, 80, 256]⟩
abbrev S1x64x256 : Shape := ⟨3, ![1, 64, 256]⟩
abbrev S64x256 : Shape := ⟨2, ![64, 256]⟩
abbrev S1x1x256 : Shape := ⟨3, ![1, 1, 256]⟩
abbrev S1024x256 : Shape := ⟨2, ![1024, 256]⟩
abbrev S256x1024 : Shape := ⟨2, ![256, 1024]⟩

abbrev nBuf : Space → Nat
  | .hbm => 45
  | .vmem => 9
  | .smem => 0
  | _ => 0

abbrev bufTy : (tb : Table) → Fin (tcTables nBuf tb) → BufTy
  | .hbm, ⟨0, _⟩ => ⟨S8x16x2048x64, .f32⟩
  | .hbm, ⟨1, _⟩ => ⟨S8x16x2048x64, .f32⟩
  | .hbm, ⟨2, _⟩ => ⟨S8x16x2048x64, .f32⟩
  | .hbm, ⟨3, _⟩ => ⟨S8x16x2048, .f32⟩
  | .hbm, ⟨4, _⟩ => ⟨S8x16x2048, .bf16⟩
  | .hbm, ⟨5, _⟩ => ⟨S8x16x2048, .f32⟩
  | .hbm, ⟨6, _⟩ => ⟨S8x16x2048, .f32⟩
  | .hbm, ⟨7, _⟩ => ⟨S8x16x2048, .bf16⟩
  | .hbm, ⟨8, _⟩ => ⟨S8x16x2048, .f32⟩
  | .hbm, ⟨9, _⟩ => ⟨S8x16x2048, .f32⟩
  | .hbm, ⟨10, _⟩ => ⟨S_, .f32⟩
  | .hbm, ⟨11, _⟩ => ⟨S8x16x2048x3, .f32⟩
  | .hbm, ⟨12, _⟩ => ⟨S_, .f32⟩
  | .hbm, ⟨13, _⟩ => ⟨S8x16x2048x58, .f32⟩
  | .hbm, ⟨14, _⟩ => ⟨S_, .f32⟩
  | .hbm, ⟨15, _⟩ => ⟨S8x16x2048x64, .f32⟩
  | .hbm, ⟨16, _⟩ => ⟨S8x16x2048x64, .f32⟩
  | .hbm, ⟨17, _⟩ => ⟨S8x16x2048x1, .f32⟩
  | .hbm, ⟨18, _⟩ => ⟨S8x16x2048x1, .f32⟩
  | .hbm, ⟨19, _⟩ => ⟨S8x16x2048x1, .f32⟩
  | .hbm, ⟨20, _⟩ => ⟨S8x16x2048x128, .f32⟩
  | .hbm, ⟨21, _⟩ => ⟨S8x16x8x256x128, .f32⟩
  | .hbm, ⟨22, _⟩ => ⟨S8x16x8x128x256, .f32⟩
  | .hbm, ⟨23, _⟩ => ⟨S8x16x2048, .f32⟩
  | .hbm, ⟨24, _⟩ => ⟨S8x16x2048, .bf16⟩
  | .hbm, ⟨25, _⟩ => ⟨S8x16x2048, .f32⟩
  | .hbm, ⟨26, _⟩ => ⟨S8x16x2048, .f32⟩
  | .hbm, ⟨27, _⟩ => ⟨S8x16x2048, .bf16⟩
  | .hbm, ⟨28, _⟩ => ⟨S8x16x2048, .f32⟩
  | .hbm, ⟨29, _⟩ => ⟨S8x16x2048, .f32⟩
  | .hbm, ⟨30, _⟩ => ⟨S8x16x2048x1, .f32⟩
  | .hbm, ⟨31, _⟩ => ⟨S8x16x2048x1, .f32⟩
  | .hbm, ⟨32, _⟩ => ⟨S8x16x2048x1, .f32⟩
  | .hbm, ⟨33, _⟩ => ⟨S8x16x2048x128, .f32⟩
  | .hbm, ⟨34, _⟩ => ⟨S_, .f32⟩
  | .hbm, ⟨35, _⟩ => ⟨S8x16x2048x1, .f32⟩
  | .hbm, ⟨36, _⟩ => ⟨S_, .f32⟩
  | .hbm, ⟨37, _⟩ => ⟨S8x16x2048x15, .f32⟩
  | .hbm, ⟨38, _⟩ => ⟨S8x16x2048x80, .f32⟩
  | .hbm, ⟨39, _⟩ => ⟨S8x16x8x256x80, .f32⟩
  | .hbm, ⟨40, _⟩ => ⟨S8x16x8x80x256, .f32⟩
  | .hbm, ⟨41, _⟩ => ⟨S8x16x8x128x256, .bf16⟩
  | .hbm, ⟨42, _⟩ => ⟨S8x16x2048x128, .bf16⟩
  | .hbm, ⟨43, _⟩ => ⟨S8x16x8x80x256, .bf16⟩
  | .hbm, ⟨44, _⟩ => ⟨S8x2048x1024, .bf16⟩
  | .local _ .vmem, ⟨0, _⟩ => ⟨S1x16x1x128x256, .bf16⟩
  | .local _ .vmem, ⟨1, _⟩ => ⟨S1x16x1x128x256, .bf16⟩
  | .local _ .vmem, ⟨2, _⟩ => ⟨S1x16x2048x128, .bf16⟩
  | .local _ .vmem, ⟨3, _⟩ => ⟨S1x16x2048x128, .bf16⟩
  | .local _ .vmem, ⟨4, _⟩ => ⟨S1x16x8x80x256, .bf16⟩
  | .local _ .vmem, ⟨5, _⟩ => ⟨S1x16x8x80x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S16x80x256, .f32⟩
  | _, _ => ⟨S8x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_83 : BitVec 32 := 1#32
  ⟨c0_i32, v59, c1_i32_83⟩
def k0_mult1 (i : grid0.Coords) (k0_t1 : Fin (k0_t1_loop i).trips) : BitVec 32 :=
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  v662
def k0_off1 (i : grid0.Coords) (k0_t1 : Fin (k0_t1_loop i).trips) : Fin 4 → Nat :=
  let c0_488 : Index := 0#32
  let c0_489 : Index := 0#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v664 : Index := Scalar.indexCast v663
  let c0_490 : Index := 0#32
  ![0, 0, v664.toNat, 0]
def k0_off2 (i : grid0.Coords) (k0_t1 : Fin (k0_t1_loop i).trips) : Fin 4 → Nat :=
  let c0_493 : Index := 0#32
  let c1_494 : Index := 1#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v670 : Index := Scalar.indexCast v663
  let c0_495 : Index := 0#32
  ![0, 1, v670.toNat, 0]
def k0_off3 (i : grid0.Coords) (k0_t1 : Fin (k0_t1_loop i).trips) : Fin 4 → Nat :=
  let c0_498 : Index := 0#32
  let c2_499 : Index := 2#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v676 : Index := Scalar.indexCast v663
  let c0_500 : Index := 0#32
  ![0, 2, v676.toNat, 0]
def k0_off4 (i : grid0.Coords) (k0_t1 : Fin (k0_t1_loop i).trips) : Fin 4 → Nat :=
  let c0_503 : Index := 0#32
  let c3_504 : Index := 3#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v682 : Index := Scalar.indexCast v663
  let c0_505 : Index := 0#32
  ![0, 3, v682.toNat, 0]
def k0_off5 (i : grid0.Coords) (k0_t1 : Fin (k0_t1_loop i).trips) : Fin 4 → Nat :=
  let c0_508 : Index := 0#32
  let c4_509 : Index := 4#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v688 : Index := Scalar.indexCast v663
  let c0_510 : Index := 0#32
  ![0, 4, v688.toNat, 0]
def k0_off6 (i : grid0.Coords) (k0_t1 : Fin (k0_t1_loop i).trips) : Fin 4 → Nat :=
  let c0_513 : Index := 0#32
  let c5_514 : Index := 5#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v694 : Index := Scalar.indexCast v663
  let c0_515 : Index := 0#32
  ![0, 5, v694.toNat, 0]
def k0_off7 (i : grid0.Coords) (k0_t1 : Fin (k0_t1_loop i).trips) : Fin 4 → Nat :=
  let c0_518 : Index := 0#32
  let c6_519 : Index := 6#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v700 : Index := Scalar.indexCast v663
  let c0_520 : Index := 0#32
  ![0, 6, v700.toNat, 0]
def k0_off8 (i : grid0.Coords) (k0_t1 : Fin (k0_t1_loop i).trips) : Fin 4 → Nat :=
  let c0_524 : Index := 0#32
  let c7_525 : Index := 7#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v715 : Index := Scalar.indexCast v663
  let c0_526 : Index := 0#32
  ![0, 7, v715.toNat, 0]
def k0_off9 (i : grid0.Coords) (k0_t1 : Fin (k0_t1_loop i).trips) : Fin 4 → Nat :=
  let c0_530 : Index := 0#32
  let c8_531 : Index := 8#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v730 : Index := Scalar.indexCast v663
  let c0_532 : Index := 0#32
  ![0, 8, v730.toNat, 0]
def k0_off10 (i : grid0.Coords) (k0_t1 : Fin (k0_t1_loop i).trips) : Fin 4 → Nat :=
  let c0_536 : Index := 0#32
  let c9_537 : Index := 9#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v745 : Index := Scalar.indexCast v663
  let c0_538 : Index := 0#32
  ![0, 9, v745.toNat, 0]
def k0_off11 (i : grid0.Coords) (k0_t1 : Fin (k0_t1_loop i).trips) : Fin 4 → Nat :=
  let c0_542 : Index := 0#32
  let c10_543 : Index := 10#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v760 : Index := Scalar.indexCast v663
  let c0_544 : Index := 0#32
  ![0, 10, v760.toNat, 0]
def k0_off12 (i : grid0.Coords) (k0_t1 : Fin (k0_t1_loop i).trips) : Fin 4 → Nat :=
  let c0_548 : Index := 0#32
  let c11_549 : Index := 11#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v775 : Index := Scalar.indexCast v663
  let c0_550 : Index := 0#32
  ![0, 11, v775.toNat, 0]
def k0_off13 (i : grid0.Coords) (k0_t1 : Fin (k0_t1_loop i).trips) : Fin 4 → Nat :=
  let c0_554 : Index := 0#32
  let c12_555 : Index := 12#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v790 : Index := Scalar.indexCast v663
  let c0_556 : Index := 0#32
  ![0, 12, v790.toNat, 0]
def k0_off14 (i : grid0.Coords) (k0_t1 : Fin (k0_t1_loop i).trips) : Fin 5 → Nat :=
  let c0_563 : Index := 0#32
  let c0_564 : Index := 0#32
  let c0_i32 : BitVec 32 := 0#32
  let c1_i32_83 : BitVec 32 := 1#32
  let arg8 : BitVec 32 := Scf.iv c0_i32 c1_i32_83 k0_t1
  let v809 : Index := Scalar.indexCast arg8
  let c0_565 : Index := 0#32
  let c0_566 : Index := 0#32
  ![0, 0, v809.toNat, 0, 0]
def k0_off15 (i : grid0.Coords) (k0_t1 : Fin (k0_t1_loop i).trips) : Fin 4 → Nat :=
  let c0_571 : Index := 0#32
  let c13_572 : Index := 13#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v817 : Index := Scalar.indexCast v663
  let c0_573 : Index := 0#32
  ![0, 13, v817.toNat, 0]
def k0_off16 (i : grid0.Coords) (k0_t1 : Fin (k0_t1_loop i).trips) : Fin 5 → Nat :=
  let c0_580 : Index := 0#32
  let c1_581 : Index := 1#32
  let c0_i32 : BitVec 32 := 0#32
  let c1_i32_83 : BitVec 32 := 1#32
  let arg8 : BitVec 32 := Scf.iv c0_i32 c1_i32_83 k0_t1
  let v836 : Index := Scalar.indexCast arg8
  let c0_582 : Index := 0#32
  let c0_583 : Index := 0#32
  ![0, 1, v836.toNat, 0, 0]
def k0_off17 (i : grid0.Coords) (k0_t1 : Fin (k0_t1_loop i).trips) : Fin 4 → Nat :=
  let c0_588 : Index := 0#32
  let c14_589 : Index := 14#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v844 : Index := Scalar.indexCast v663
  let c0_590 : Index := 0#32
  ![0, 14, v844.toNat, 0]
def k0_off18 (i : grid0.Coords) (k0_t1 : Fin (k0_t1_loop i).trips) : Fin 5 → Nat :=
  let c0_597 : Index := 0#32
  let c2_598 : Index := 2#32
  let c0_i32 : BitVec 32 := 0#32
  let c1_i32_83 : BitVec 32 := 1#32
  let arg8 : BitVec 32 := Scf.iv c0_i32 c1_i32_83 k0_t1
  let v863 : Index := Scalar.indexCast arg8
  let c0_599 : Index := 0#32
  let c0_600 : Index := 0#32
  ![0, 2, v863.toNat, 0, 0]
def k0_off19 (i : grid0.Coords) (k0_t1 : Fin (k0_t1_loop i).trips) : Fin 4 → Nat :=
  let c0_605 : Index := 0#32
  let c15_606 : Index := 15#32
  let c0_i32 : BitVec 32 := 0#32
  let c1_i32_83 : BitVec 32 := 1#32
  let arg8 : BitVec 32 := Scf.iv c0_i32 c1_i32_83 k0_t1
  let c256_i32_487 : BitVec 32 := 256#32
  let v662 : BitVec 32 := Scalar.muli arg8 c256_i32_487
  let v663 : BitVec 32 := v662
  let v871 : Index := Scalar.indexCast v663
  let c0_607 : Index := 0#32
  ![0, 15, v871.toNat, 0]
def k0_off20 (i : grid0.Coords) (k0_t1 : Fin (k0_t1_loop i).trips) : Fin 5 → Nat :=
  let c0_614 : Index := 0#32
  let c3_615 : Index := 3#32
  let c0_i32 : BitVec 32 := 0#32
  let c1_i32_83 : BitVec 32 := 1#32
  let arg8 : BitVec 32 := Scf.iv c0_i32 c1_i32_83 k0_t1
  let v890 : Index := Scalar.indexCast arg8
  let c0_616 : Index := 0#32
  let c0_617 : Index := 0#32
  ![0, 3, v890.toNat, 0, 0]
def k0_off21 (i : grid0.Coords) (k0_t1 : Fin (k0_t1_loop i).trips) : Fin 5 → Nat :=
  let c0_626 : Index := 0#32
  let c4_627 : Index := 4#32
  let c0_i32 : BitVec 32 := 0#32
  let c1_i32_83 : BitVec 32 := 1#32
  let arg8 : BitVec 32 := Scf.iv c0_i32 c1_i32_83 k0_t1
  let v911 : Index := Scalar.indexCast arg8
  let c0_628 : Index := 0#32
  let c0_629 : Index := 0#32
  ![0, 4, v911.toNat, 0, 0]
def k0_off22 (i : grid0.Coords) (k0_t1 : Fin (k0_t1_loop i).trips) : Fin 5 → Nat :=
  let c0_638 : Index := 0#32
  let c5_639 : Index := 5#32
  let c0_i32 : BitVec 32 := 0#32
  let c1_i32_83 : BitVec 32 := 1#32
  let arg8 : BitVec 32 := Scf.iv c0_i32 c1_i32_83 k0_t1
  let v932 : Index := Scalar.indexCast arg8
  let c0_640 : Index := 0#32
  let c0_641 : Index := 0#32
  ![0, 5, v932.toNat, 0, 0]
def k0_off23 (i : grid0.Coords) (k0_t1 : Fin (k0_t1_loop i).trips) : Fin 5 → Nat :=
  let c0_650 : Index := 0#32
  let c6_651 : Index := 6#32
  let c0_i32 : BitVec 32 := 0#32
  let c1_i32_83 : BitVec 32 := 1#32
  let arg8 : BitVec 32 := Scf.iv c0_i32 c1_i32_83 k0_t1
  let v953 : Index := Scalar.indexCast arg8
  let c0_652 : Index := 0#32
  let c0_653 : Index := 0#32
  ![0, 6, v953.toNat, 0, 0]
def k0_off24 (i : grid0.Coords) (k0_t1 : Fin (k0_t1_loop i).trips) : Fin 5 → Nat :=
  let c0_662 : Index := 0#32
  let c7_663 : Index := 7#32
  let c0_i32 : BitVec 32 := 0#32
  let c1_i32_83 : BitVec 32 := 1#32
  let arg8 : BitVec 32 := Scf.iv c0_i32 c1_i32_83 k0_t1
  let v974 : Index := Scalar.indexCast arg8
  let c0_664 : Index := 0#32
  let c0_665 : Index := 0#32
  ![0, 7, v974.toNat, 0, 0]
def k0_off25 (i : grid0.Coords) (k0_t1 : Fin (k0_t1_loop i).trips) : Fin 5 → Nat :=
  let c0_674 : Index := 0#32
  let c8_675 : Index := 8#32
  let c0_i32 : BitVec 32 := 0#32
  let c1_i32_83 : BitVec 32 := 1#32
  let arg8 : BitVec 32 := Scf.iv c0_i32 c1_i32_83 k0_t1
  let v995 : Index := Scalar.indexCast arg8
  let c0_676 : Index := 0#32
  let c0_677 : Index := 0#32
  ![0, 8, v995.toNat, 0, 0]
def k0_off26 (i : grid0.Coords) (k0_t1 : Fin (k0_t1_loop i).trips) : Fin 5 → Nat :=
  let c0_686 : Index := 0#32
  let c9_687 : Index := 9#32
  let c0_i32 : BitVec 32 := 0#32
  let c1_i32_83 : BitVec 32 := 1#32
  let arg8 : BitVec 32 := Scf.iv c0_i32 c1_i32_83 k0_t1
  let v1016 : Index := Scalar.indexCast arg8
  let c0_688 : Index := 0#32
  let c0_689 : Index := 0#32
  ![0, 9, v1016.toNat, 0, 0]
def k0_off27 (i : grid0.Coords) (k0_t1 : Fin (k0_t1_loop i).trips) : Fin 5 → Nat :=
  let c0_697 : Index := 0#32
  let c10_698 : Index := 10#32
  let c0_i32 : BitVec 32 := 0#32
  let c1_i32_83 : BitVec 32 := 1#32
  let arg8 : BitVec 32 := Scf.iv c0_i32 c1_i32_83 k0_t1
  let v1028 : Index := Scalar.indexCast arg8
  let c0_699 : Index := 0#32
  let c0_700 : Index := 0#32
  ![0, 10, v1028.toNat, 0, 0]
def k0_off28 (i : grid0.Coords) (k0_t1 : Fin (k0_t1_loop i).trips) : Fin 5 → Nat :=
  let c0_708 : Index := 0#32
  let c11_709 : Index := 11#32
  let c0_i32 : BitVec 32 := 0#32
  let c1_i32_83 : BitVec 32 := 1#32
  let arg8 : BitVec 32 := Scf.iv c0_i32 c1_i32_83 k0_t1
  let v1040 : Index := Scalar.indexCast arg8
  let c0_710 : Index := 0#32
  let c0_711 : Index := 0#32
  ![0, 11, v1040.toNat, 0, 0]
def k0_off29 (i : grid0.Coords) (k0_t1 : Fin (k0_t1_loop i).trips) : Fin 5 → Nat :=
  let c0_719 : Index := 0#32
  let c12_720 : Index := 12#32
  let c0_i32 : BitVec 32 := 0#32
  let c1_i32_83 : BitVec 32 := 1#32
  let arg8 : BitVec 32 := Scf.iv c0_i32 c1_i32_83 k0_t1
  let v1052 : Index := Scalar.indexCast arg8
  let c0_721 : Index := 0#32
  let c0_722 : Index := 0#32
  ![0, 12, v1052.toNat, 0, 0]
def k0_off30 (i : grid0.Coords) (k0_t1 : Fin (k0_t1_loop i).trips) : Fin 5 → Nat :=
  let c0_730 : Index := 0#32
  let c13_731 : Index := 13#32
  let c0_i32 : BitVec 32 := 0#32
  let c1_i32_83 : BitVec 32 := 1#32
  let arg8 : BitVec 32 := Scf.iv c0_i32 c1_i32_83 k0_t1
  let v1064 : Index := Scalar.indexCast arg8
  let c0_732 : Index := 0#32
  let c0_733 : Index := 0#32
  ![0, 13, v1064.toNat, 0, 0]
def k0_off31 (i : grid0.Coords) (k0_t1 : Fin (k0_t1_loop i).trips) : Fin 5 → Nat :=
  let c0_741 : Index := 0#32
  let c14_742 : Index := 14#32
  let c0_i32 : BitVec 32 := 0#32
  let c1_i32_83 : BitVec 32 := 1#32
  let arg8 : BitVec 32 := Scf.iv c0_i32 c1_i32_83 k0_t1
  let v1076 : Index := Scalar.indexCast arg8
  let c0_743 : Index := 0#32
  let c0_744 : Index := 0#32
  ![0, 14, v1076.toNat, 0, 0]
def k0_off32 (i : grid0.Coords) (k0_t1 : Fin (k0_t1_loop i).trips) : Fin 5 → Nat :=
  let c0_752 : Index := 0#32
  let c15_753 : Index := 15#32
  let c0_i32 : BitVec 32 := 0#32
  let c1_i32_83 : BitVec 32 := 1#32
  let arg8 : BitVec 32 := Scf.iv c0_i32 c1_i32_83 k0_t1
  let v1088 : Index := Scalar.indexCast arg8
  let c0_754 : Index := 0#32
  let c0_755 : Index := 0#32
  ![0, 15, v1088.toNat, 0, 0]
@[reducible] def k0_t2_loop (i : grid0.Coords) : Scf.Loop 32 :=
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let v56 : BitVec 32 := Scalar.addi c0_i32 v55
  let c1_i32_84 : BitVec 32 := 1#32
  ⟨v59, v56, c1_i32_84⟩
def k0_mult2 (i : grid0.Coords) (k0_t2 : Fin (k0_t2_loop i).trips) : BitVec 32 :=
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  v662
def k0_off33 (i : grid0.Coords) (k0_t2 : Fin (k0_t2_loop i).trips) : Fin 4 → Nat :=
  let c0_488 : Index := 0#32
  let c0_489 : Index := 0#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v664 : Index := Scalar.indexCast v663
  let c0_490 : Index := 0#32
  ![0, 0, v664.toNat, 0]
def k0_off34 (i : grid0.Coords) (k0_t2 : Fin (k0_t2_loop i).trips) : Fin 4 → Nat :=
  let c0_493 : Index := 0#32
  let c1_494 : Index := 1#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v670 : Index := Scalar.indexCast v663
  let c0_495 : Index := 0#32
  ![0, 1, v670.toNat, 0]
def k0_off35 (i : grid0.Coords) (k0_t2 : Fin (k0_t2_loop i).trips) : Fin 4 → Nat :=
  let c0_498 : Index := 0#32
  let c2_499 : Index := 2#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v676 : Index := Scalar.indexCast v663
  let c0_500 : Index := 0#32
  ![0, 2, v676.toNat, 0]
def k0_off36 (i : grid0.Coords) (k0_t2 : Fin (k0_t2_loop i).trips) : Fin 4 → Nat :=
  let c0_503 : Index := 0#32
  let c3_504 : Index := 3#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v682 : Index := Scalar.indexCast v663
  let c0_505 : Index := 0#32
  ![0, 3, v682.toNat, 0]
def k0_off37 (i : grid0.Coords) (k0_t2 : Fin (k0_t2_loop i).trips) : Fin 4 → Nat :=
  let c0_508 : Index := 0#32
  let c4_509 : Index := 4#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v688 : Index := Scalar.indexCast v663
  let c0_510 : Index := 0#32
  ![0, 4, v688.toNat, 0]
def k0_off38 (i : grid0.Coords) (k0_t2 : Fin (k0_t2_loop i).trips) : Fin 4 → Nat :=
  let c0_513 : Index := 0#32
  let c5_514 : Index := 5#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v694 : Index := Scalar.indexCast v663
  let c0_515 : Index := 0#32
  ![0, 5, v694.toNat, 0]
def k0_off39 (i : grid0.Coords) (k0_t2 : Fin (k0_t2_loop i).trips) : Fin 4 → Nat :=
  let c0_518 : Index := 0#32
  let c6_519 : Index := 6#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v700 : Index := Scalar.indexCast v663
  let c0_520 : Index := 0#32
  ![0, 6, v700.toNat, 0]
def k0_off40 (i : grid0.Coords) (k0_t2 : Fin (k0_t2_loop i).trips) : Fin 4 → Nat :=
  let c0_524 : Index := 0#32
  let c7_525 : Index := 7#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v715 : Index := Scalar.indexCast v663
  let c0_526 : Index := 0#32
  ![0, 7, v715.toNat, 0]
def k0_off41 (i : grid0.Coords) (k0_t2 : Fin (k0_t2_loop i).trips) : Fin 4 → Nat :=
  let c0_530 : Index := 0#32
  let c8_531 : Index := 8#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v730 : Index := Scalar.indexCast v663
  let c0_532 : Index := 0#32
  ![0, 8, v730.toNat, 0]
def k0_off42 (i : grid0.Coords) (k0_t2 : Fin (k0_t2_loop i).trips) : Fin 4 → Nat :=
  let c0_536 : Index := 0#32
  let c9_537 : Index := 9#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v745 : Index := Scalar.indexCast v663
  let c0_538 : Index := 0#32
  ![0, 9, v745.toNat, 0]
def k0_off43 (i : grid0.Coords) (k0_t2 : Fin (k0_t2_loop i).trips) : Fin 4 → Nat :=
  let c0_542 : Index := 0#32
  let c10_543 : Index := 10#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v760 : Index := Scalar.indexCast v663
  let c0_544 : Index := 0#32
  ![0, 10, v760.toNat, 0]
def k0_off44 (i : grid0.Coords) (k0_t2 : Fin (k0_t2_loop i).trips) : Fin 4 → Nat :=
  let c0_548 : Index := 0#32
  let c11_549 : Index := 11#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v775 : Index := Scalar.indexCast v663
  let c0_550 : Index := 0#32
  ![0, 11, v775.toNat, 0]
def k0_off45 (i : grid0.Coords) (k0_t2 : Fin (k0_t2_loop i).trips) : Fin 4 → Nat :=
  let c0_554 : Index := 0#32
  let c12_555 : Index := 12#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v790 : Index := Scalar.indexCast v663
  let c0_556 : Index := 0#32
  ![0, 12, v790.toNat, 0]
def k0_off46 (i : grid0.Coords) (k0_t2 : Fin (k0_t2_loop i).trips) : Fin 5 → Nat :=
  let c0_563 : Index := 0#32
  let c0_564 : Index := 0#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v809 : Index := Scalar.indexCast arg8
  let c0_565 : Index := 0#32
  let c0_566 : Index := 0#32
  ![0, 0, v809.toNat, 0, 0]
def k0_off47 (i : grid0.Coords) (k0_t2 : Fin (k0_t2_loop i).trips) : Fin 4 → Nat :=
  let c0_571 : Index := 0#32
  let c13_572 : Index := 13#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v817 : Index := Scalar.indexCast v663
  let c0_573 : Index := 0#32
  ![0, 13, v817.toNat, 0]
def k0_off48 (i : grid0.Coords) (k0_t2 : Fin (k0_t2_loop i).trips) : Fin 5 → Nat :=
  let c0_580 : Index := 0#32
  let c1_581 : Index := 1#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v836 : Index := Scalar.indexCast arg8
  let c0_582 : Index := 0#32
  let c0_583 : Index := 0#32
  ![0, 1, v836.toNat, 0, 0]
def k0_off49 (i : grid0.Coords) (k0_t2 : Fin (k0_t2_loop i).trips) : Fin 4 → Nat :=
  let c0_588 : Index := 0#32
  let c14_589 : Index := 14#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v844 : Index := Scalar.indexCast v663
  let c0_590 : Index := 0#32
  ![0, 14, v844.toNat, 0]
def k0_off50 (i : grid0.Coords) (k0_t2 : Fin (k0_t2_loop i).trips) : Fin 5 → Nat :=
  let c0_597 : Index := 0#32
  let c2_598 : Index := 2#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v863 : Index := Scalar.indexCast arg8
  let c0_599 : Index := 0#32
  let c0_600 : Index := 0#32
  ![0, 2, v863.toNat, 0, 0]
def k0_off51 (i : grid0.Coords) (k0_t2 : Fin (k0_t2_loop i).trips) : Fin 4 → Nat :=
  let c0_605 : Index := 0#32
  let c15_606 : Index := 15#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let c256_i32_487 : BitVec 32 := 256#32
  let v662 : BitVec 32 := Scalar.muli arg8 c256_i32_487
  let v663 : BitVec 32 := v662
  let v871 : Index := Scalar.indexCast v663
  let c0_607 : Index := 0#32
  ![0, 15, v871.toNat, 0]
def k0_off52 (i : grid0.Coords) (k0_t2 : Fin (k0_t2_loop i).trips) : Fin 5 → Nat :=
  let c0_614 : Index := 0#32
  let c3_615 : Index := 3#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v890 : Index := Scalar.indexCast arg8
  let c0_616 : Index := 0#32
  let c0_617 : Index := 0#32
  ![0, 3, v890.toNat, 0, 0]
def k0_off53 (i : grid0.Coords) (k0_t2 : Fin (k0_t2_loop i).trips) : Fin 5 → Nat :=
  let c0_626 : Index := 0#32
  let c4_627 : Index := 4#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v911 : Index := Scalar.indexCast arg8
  let c0_628 : Index := 0#32
  let c0_629 : Index := 0#32
  ![0, 4, v911.toNat, 0, 0]
def k0_off54 (i : grid0.Coords) (k0_t2 : Fin (k0_t2_loop i).trips) : Fin 5 → Nat :=
  let c0_638 : Index := 0#32
  let c5_639 : Index := 5#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v932 : Index := Scalar.indexCast arg8
  let c0_640 : Index := 0#32
  let c0_641 : Index := 0#32
  ![0, 5, v932.toNat, 0, 0]
def k0_off55 (i : grid0.Coords) (k0_t2 : Fin (k0_t2_loop i).trips) : Fin 5 → Nat :=
  let c0_650 : Index := 0#32
  let c6_651 : Index := 6#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v953 : Index := Scalar.indexCast arg8
  let c0_652 : Index := 0#32
  let c0_653 : Index := 0#32
  ![0, 6, v953.toNat, 0, 0]
def k0_off56 (i : grid0.Coords) (k0_t2 : Fin (k0_t2_loop i).trips) : Fin 5 → Nat :=
  let c0_662 : Index := 0#32
  let c7_663 : Index := 7#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v974 : Index := Scalar.indexCast arg8
  let c0_664 : Index := 0#32
  let c0_665 : Index := 0#32
  ![0, 7, v974.toNat, 0, 0]
def k0_off57 (i : grid0.Coords) (k0_t2 : Fin (k0_t2_loop i).trips) : Fin 5 → Nat :=
  let c0_674 : Index := 0#32
  let c8_675 : Index := 8#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v995 : Index := Scalar.indexCast arg8
  let c0_676 : Index := 0#32
  let c0_677 : Index := 0#32
  ![0, 8, v995.toNat, 0, 0]
def k0_off58 (i : grid0.Coords) (k0_t2 : Fin (k0_t2_loop i).trips) : Fin 5 → Nat :=
  let c0_686 : Index := 0#32
  let c9_687 : Index := 9#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v1016 : Index := Scalar.indexCast arg8
  let c0_688 : Index := 0#32
  let c0_689 : Index := 0#32
  ![0, 9, v1016.toNat, 0, 0]
def k0_off59 (i : grid0.Coords) (k0_t2 : Fin (k0_t2_loop i).trips) : Fin 5 → Nat :=
  let c0_697 : Index := 0#32
  let c10_698 : Index := 10#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v1028 : Index := Scalar.indexCast arg8
  let c0_699 : Index := 0#32
  let c0_700 : Index := 0#32
  ![0, 10, v1028.toNat, 0, 0]
def k0_off60 (i : grid0.Coords) (k0_t2 : Fin (k0_t2_loop i).trips) : Fin 5 → Nat :=
  let c0_708 : Index := 0#32
  let c11_709 : Index := 11#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v1040 : Index := Scalar.indexCast arg8
  let c0_710 : Index := 0#32
  let c0_711 : Index := 0#32
  ![0, 11, v1040.toNat, 0, 0]
def k0_off61 (i : grid0.Coords) (k0_t2 : Fin (k0_t2_loop i).trips) : Fin 5 → Nat :=
  let c0_719 : Index := 0#32
  let c12_720 : Index := 12#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v1052 : Index := Scalar.indexCast arg8
  let c0_721 : Index := 0#32
  let c0_722 : Index := 0#32
  ![0, 12, v1052.toNat, 0, 0]
def k0_off62 (i : grid0.Coords) (k0_t2 : Fin (k0_t2_loop i).trips) : Fin 5 → Nat :=
  let c0_730 : Index := 0#32
  let c13_731 : Index := 13#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v1064 : Index := Scalar.indexCast arg8
  let c0_732 : Index := 0#32
  let c0_733 : Index := 0#32
  ![0, 13, v1064.toNat, 0, 0]
def k0_off63 (i : grid0.Coords) (k0_t2 : Fin (k0_t2_loop i).trips) : Fin 5 → Nat :=
  let c0_741 : Index := 0#32
  let c14_742 : Index := 14#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v1076 : Index := Scalar.indexCast arg8
  let c0_743 : Index := 0#32
  let c0_744 : Index := 0#32
  ![0, 14, v1076.toNat, 0, 0]
def k0_off64 (i : grid0.Coords) (k0_t2 : Fin (k0_t2_loop i).trips) : Fin 5 → Nat :=
  let c0_752 : Index := 0#32
  let c15_753 : Index := 15#32
  let c0_i32 : BitVec 32 := 0#32
  let arg2 : BitVec 32 := BitVec.ofNat 32 (i 2).val
  let v55 : BitVec 32 := Scalar.subi arg2 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_84 : BitVec 32 := 1#32
  let arg8 : BitVec 32 := Scf.iv v59 c1_i32_84 k0_t2
  let v1088 : Index := Scalar.indexCast arg8
  let c0_754 : Index := 0#32
  let c0_755 : Index := 0#32
  ![0, 15, v1088.toNat, 0, 0]
def k0_mult3 (i : grid0.Coords) : BitVec 32 :=
  let arg2 : BitVec 32 := BitVec.ofNat 32 (i 2).val
  let c256_i32 : BitVec 32 := 256#32
  let v62 : BitVec 32 := Scalar.muli arg2 c256_i32
  v62
def k0_off65 (i : grid0.Coords) : Fin 4 → Nat :=
  let c0_85 : Index := 0#32
  let c0_86 : Index := 0#32
  let arg2 : BitVec 32 := BitVec.ofNat 32 (i 2).val
  let c256_i32 : BitVec 32 := 256#32
  let v62 : BitVec 32 := Scalar.muli arg2 c256_i32
  let v63 : BitVec 32 := v62
  let v64 : Index := Scalar.indexCast v63
  let c0_87 : Index := 0#32
  ![0, 0, v64.toNat, 0]
def k0_off66 (i : grid0.Coords) : Fin 4 → Nat :=
  let c0_91 : Index := 0#32
  let c1_92 : Index := 1#32
  let arg2 : BitVec 32 := BitVec.ofNat 32 (i 2).val
  let c256_i32 : BitVec 32 := 256#32
  let v62 : BitVec 32 := Scalar.muli arg2 c256_i32
  let v63 : BitVec 32 := v62
  let v72 : Index := Scalar.indexCast v63
  let c0_93 : Index := 0#32
  ![0, 1, v72.toNat, 0]
def k0_off67 (i : grid0.Coords) : Fin 4 → Nat :=
  let c0_97 : Index := 0#32
  let c2_98 : Index := 2#32
  let arg2 : BitVec 32 := BitVec.ofNat 32 (i 2).val
  let c256_i32 : BitVec 32 := 256#32
  let v62 : BitVec 32 := Scalar.muli arg2 c256_i32
  let v63 : BitVec 32 := v62
  let v80 : Index := Scalar.indexCast v63
  let c0_99 : Index := 0#32
  ![0, 2, v80.toNat, 0]
def k0_off68 (i : grid0.Coords) : Fin 4 → Nat :=
  let c0_103 : Index := 0#32
  let c3_104 : Index := 3#32
  let arg2 : BitVec 32 := BitVec.ofNat 32 (i 2).val
  let c256_i32 : BitVec 32 := 256#32
  let v62 : BitVec 32 := Scalar.muli arg2 c256_i32
  let v63 : BitVec 32 := v62
  let v88 : Index := Scalar.indexCast v63
  let c0_105 : Index := 0#32
  ![0, 3, v88.toNat, 0]
def k0_off69 (i : grid0.Coords) : Fin 4 → Nat :=
  let c0_109 : Index := 0#32
  let c4_110 : Index := 4#32
  let arg2 : BitVec 32 := BitVec.ofNat 32 (i 2).val
  let c256_i32 : BitVec 32 := 256#32
  let v62 : BitVec 32 := Scalar.muli arg2 c256_i32
  let v63 : BitVec 32 := v62
  let v96 : Index := Scalar.indexCast v63
  let c0_111 : Index := 0#32
  ![0, 4, v96.toNat, 0]
def k0_off70 (i : grid0.Coords) : Fin 4 → Nat :=
  let c0_115 : Index := 0#32
  let c5_116 : Index := 5#32
  let arg2 : BitVec 32 := BitVec.ofNat 32 (i 2).val
  let c256_i32 : BitVec 32 := 256#32
  let v62 : BitVec 32 := Scalar.muli arg2 c256_i32
  let v63 : BitVec 32 := v62
  let v104 : Index := Scalar.indexCast v63
  let c0_117 : Index := 0#32
  ![0, 5, v104.toNat, 0]
def k0_off71 (i : grid0.Coords) : Fin 4 → Nat :=
  let c0_121 : Index := 0#32
  let c6_122 : Index := 6#32
  let arg2 : BitVec 32 := BitVec.ofNat 32 (i 2).val
  let c256_i32 : BitVec 32 := 256#32
  let v62 : BitVec 32 := Scalar.muli arg2 c256_i32
  let v63 : BitVec 32 := v62
  let v112 : Index := Scalar.indexCast v63
  let c0_123 : Index := 0#32
  ![0, 6, v112.toNat, 0]
def k0_off72 (i : grid0.Coords) : Fin 4 → Nat :=
  let c0_128 : Index := 0#32
  let c7_129 : Index := 7#32
  let arg2 : BitVec 32 := BitVec.ofNat 32 (i 2).val
  let c256_i32 : BitVec 32 := 256#32
  let v62 : BitVec 32 := Scalar.muli arg2 c256_i32
  let v63 : BitVec 32 := v62
  let v129 : Index := Scalar.indexCast v63
  let c0_130 : Index := 0#32
  ![0, 7, v129.toNat, 0]
def k0_off73 (i : grid0.Coords) : Fin 4 → Nat :=
  let c0_135 : Index := 0#32
  let c8_136 : Index := 8#32
  let arg2 : BitVec 32 := BitVec.ofNat 32 (i 2).val
  let c256_i32 : BitVec 32 := 256#32
  let v62 : BitVec 32 := Scalar.muli arg2 c256_i32
  let v63 : BitVec 32 := v62
  let v146 : Index := Scalar.indexCast v63
  let c0_137 : Index := 0#32
  ![0, 8, v146.toNat, 0]
def k0_off74 (i : grid0.Coords) : Fin 4 → Nat :=
  let c0_142 : Index := 0#32
  let c9_143 : Index := 9#32
  let arg2 : BitVec 32 := BitVec.ofNat 32 (i 2).val
  let c256_i32 : BitVec 32 := 256#32
  let v62 : BitVec 32 := Scalar.muli arg2 c256_i32
  let v63 : BitVec 32 := v62
  let v163 : Index := Scalar.indexCast v63
  let c0_144 : Index := 0#32
  ![0, 9, v163.toNat, 0]
def k0_off75 (i : grid0.Coords) : Fin 4 → Nat :=
  let c0_149 : Index := 0#32
  let c10_150 : Index := 10#32
  let arg2 : BitVec 32 := BitVec.ofNat 32 (i 2).val
  let c256_i32 : BitVec 32 := 256#32
  let v62 : BitVec 32 := Scalar.muli arg2 c256_i32
  let v63 : BitVec 32 := v62
  let v180 : Index := Scalar.indexCast v63
  let c0_151 : Index := 0#32
  ![0, 10, v180.toNat, 0]
def k0_off76 (i : grid0.Coords) : Fin 4 → Nat :=
  let c0_156 : Index := 0#32
  let c11_157 : Index := 11#32
  let arg2 : BitVec 32 := BitVec.ofNat 32 (i 2).val
  let c256_i32 : BitVec 32 := 256#32
  let v62 : BitVec 32 := Scalar.muli arg2 c256_i32
  let v63 : BitVec 32 := v62
  let v197 : Index := Scalar.indexCast v63
  let c0_158 : Index := 0#32
  ![0, 11, v197.toNat, 0]
def k0_off77 (i : grid0.Coords) : Fin 4 → Nat :=
  let c0_163 : Index := 0#32
  let c12_164 : Index := 12#32
  let arg2 : BitVec 32 := BitVec.ofNat 32 (i 2).val
  let c256_i32 : BitVec 32 := 256#32
  let v62 : BitVec 32 := Scalar.muli arg2 c256_i32
  let v63 : BitVec 32 := v62
  let v214 : Index := Scalar.indexCast v63
  let c0_165 : Index := 0#32
  ![0, 12, v214.toNat, 0]
def k0_off78 (i : grid0.Coords) : Fin 5 → Nat :=
  let c0_173 : Index := 0#32
  let c0_174 : Index := 0#32
  let arg2 : BitVec 32 := BitVec.ofNat 32 (i 2).val
  let v235 : Index := Scalar.indexCast arg2
  let c0_175 : Index := 0#32
  let c0_176 : Index := 0#32
  ![0, 0, v235.toNat, 0, 0]
def k0_off79 (i : grid0.Coords) : Fin 4 → Nat :=
  let c0_181 : Index := 0#32
  let c13_182 : Index := 13#32
  let arg2 : BitVec 32 := BitVec.ofNat 32 (i 2).val
  let c256_i32 : BitVec 32 := 256#32
  let v62 : BitVec 32 := Scalar.muli arg2 c256_i32
  let v63 : BitVec 32 := v62
  let v243 : Index := Scalar.indexCast v63
  let c0_183 : Index := 0#32
  ![0, 13, v243.toNat, 0]
def k0_off80 (i : grid0.Coords) : Fin 5 → Nat :=
  let c0_191 : Index := 0#32
  let c1_192 : Index := 1#32
  let arg2 : BitVec 32 := BitVec.ofNat 32 (i 2).val
  let v264 : Index := Scalar.indexCast arg2
  let c0_193 : Index := 0#32
  let c0_194 : Index := 0#32
  ![0, 1, v264.toNat, 0, 0]
def k0_off81 (i : grid0.Coords) : Fin 4 → Nat :=
  let c0_199 : Index := 0#32
  let c14_200 : Index := 14#32
  let arg2 : BitVec 32 := BitVec.ofNat 32 (i 2).val
  let c256_i32 : BitVec 32 := 256#32
  let v62 : BitVec 32 := Scalar.muli arg2 c256_i32
  let v63 : BitVec 32 := v62
  let v272 : Index := Scalar.indexCast v63
  let c0_201 : Index := 0#32
  ![0, 14, v272.toNat, 0]
def k0_off82 (i : grid0.Coords) : Fin 5 → Nat :=
  let c0_209 : Index := 0#32
  let c2_210 : Index := 2#32
  let arg2 : BitVec 32 := BitVec.ofNat 32 (i 2).val
  let v293 : Index := Scalar.indexCast arg2
  let c0_211 : Index := 0#32
  let c0_212 : Index := 0#32
  ![0, 2, v293.toNat, 0, 0]
def k0_off83 (i : grid0.Coords) : Fin 4 → Nat :=
  let c0_217 : Index := 0#32
  let c15_218 : Index := 15#32
  let arg2 : BitVec 32 := BitVec.ofNat 32 (i 2).val
  let c256_i32 : BitVec 32 := 256#32
  let v62 : BitVec 32 := Scalar.muli arg2 c256_i32
  let v63 : BitVec 32 := v62
  let v301 : Index := Scalar.indexCast v63
  let c0_219 : Index := 0#32
  ![0, 15, v301.toNat, 0]
def k0_off84 (i : grid0.Coords) : Fin 5 → Nat :=
  let c0_227 : Index := 0#32
  let c3_228 : Index := 3#32
  let arg2 : BitVec 32 := BitVec.ofNat 32 (i 2).val
  let v322 : Index := Scalar.indexCast arg2
  let c0_229 : Index := 0#32
  let c0_230 : Index := 0#32
  ![0, 3, v322.toNat, 0, 0]
def k0_off85 (i : grid0.Coords) : Fin 5 → Nat :=
  let c0_239 : Index := 0#32
  let c4_240 : Index := 4#32
  let arg2 : BitVec 32 := BitVec.ofNat 32 (i 2).val
  let v343 : Index := Scalar.indexCast arg2
  let c0_241 : Index := 0#32
  let c0_242 : Index := 0#32
  ![0, 4, v343.toNat, 0, 0]
def k0_off86 (i : grid0.Coords) : Fin 5 → Nat :=
  let c0_251 : Index := 0#32
  let c5_252 : Index := 5#32
  let arg2 : BitVec 32 := BitVec.ofNat 32 (i 2).val
  let v364 : Index := Scalar.indexCast arg2
  let c0_253 : Index := 0#32
  let c0_254 : Index := 0#32
  ![0, 5, v364.toNat, 0, 0]
def k0_off87 (i : grid0.Coords) : Fin 5 → Nat :=
  let c0_263 : Index := 0#32
  let c6_264 : Index := 6#32
  let arg2 : BitVec 32 := BitVec.ofNat 32 (i 2).val
  let v385 : Index := Scalar.indexCast arg2
  let c0_265 : Index := 0#32
  let c0_266 : Index := 0#32
  ![0, 6, v385.toNat, 0, 0]
def k0_off88 (i : grid0.Coords) : Fin 5 → Nat :=
  let c0_275 : Index := 0#32
  let c7_276 : Index := 7#32
  let arg2 : BitVec 32 := BitVec.ofNat 32 (i 2).val
  let v406 : Index := Scalar.indexCast arg2
  let c0_277 : Index := 0#32
  let c0_278 : Index := 0#32
  ![0, 7, v406.toNat, 0, 0]
def k0_off89 (i : grid0.Coords) : Fin 5 → Nat :=
  let c0_287 : Index := 0#32
  let c8_288 : Index := 8#32
  let arg2 : BitVec 32 := BitVec.ofNat 32 (i 2).val
  let v427 : Index := Scalar.indexCast arg2
  let c0_289 : Index := 0#32
  let c0_290 : Index := 0#32
  ![0, 8, v427.toNat, 0, 0]
def k0_off90 (i : grid0.Coords) : Fin 5 → Nat :=
  let c0_299 : Index := 0#32
  let c9_300 : Index := 9#32
  let arg2 : BitVec 32 := BitVec.ofNat 32 (i 2).val
  let v448 : Index := Scalar.indexCast arg2
  let c0_301 : Index := 0#32
  let c0_302 : Index := 0#32
  ![0, 9, v448.toNat, 0, 0]
def k0_off91 (i : grid0.Coords) : Fin 5 → Nat :=
  let c0_310 : Index := 0#32
  let c10_311 : Index := 10#32
  let arg2 : BitVec 32 := BitVec.ofNat 32 (i 2).val
  let v460 : Index := Scalar.indexCast arg2
  let c0_312 : Index := 0#32
  let c0_313 : Index := 0#32
  ![0, 10, v460.toNat, 0, 0]
def k0_off92 (i : grid0.Coords) : Fin 5 → Nat :=
  let c0_321 : Index := 0#32
  let c11_322 : Index := 11#32
  let arg2 : BitVec 32 := BitVec.ofNat 32 (i 2).val
  let v472 : Index := Scalar.indexCast arg2
  let c0_323 : Index := 0#32
  let c0_324 : Index := 0#32
  ![0, 11, v472.toNat, 0, 0]
def k0_off93 (i : grid0.Coords) : Fin 5 → Nat :=
  let c0_332 : Index := 0#32
  let c12_333 : Index := 12#32
  let arg2 : BitVec 32 := BitVec.ofNat 32 (i 2).val
  let v484 : Index := Scalar.indexCast arg2
  let c0_334 : Index := 0#32
  let c0_335 : Index := 0#32
  ![0, 12, v484.toNat, 0, 0]
def k0_off94 (i : grid0.Coords) : Fin 5 → Nat :=
  let c0_343 : Index := 0#32
  let c13_344 : Index := 13#32
  let arg2 : BitVec 32 := BitVec.ofNat 32 (i 2).val
  let v496 : Index := Scalar.indexCast arg2
  let c0_345 : Index := 0#32
  let c0_346 : Index := 0#32
  ![0, 13, v496.toNat, 0, 0]
def k0_off95 (i : grid0.Coords) : Fin 5 → Nat :=
  let c0_354 : Index := 0#32
  let c14_355 : Index := 14#32
  let arg2 : BitVec 32 := BitVec.ofNat 32 (i 2).val
  let v508 : Index := Scalar.indexCast arg2
  let c0_356 : Index := 0#32
  let c0_357 : Index := 0#32
  ![0, 14, v508.toNat, 0, 0]
def k0_off96 (i : grid0.Coords) : Fin 5 → Nat :=
  let c0_365 : Index := 0#32
  let c15_366 : Index := 15#32
  let arg2 : BitVec 32 := BitVec.ofNat 32 (i 2).val
  let v520 : Index := Scalar.indexCast arg2
  let c0_367 : Index := 0#32
  let c0_368 : Index := 0#32
  ![0, 15, v520.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x16x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x8x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x16x2048x64 : Shape := ⟨4, ![8, 16, 2048, 64]⟩
abbrev S8x16x2048 : Shape := ⟨3, ![8, 16, 2048]⟩
abbrev S8x16x2048x2048 : Shape := ⟨4, ![8, 16, 2048, 2048]⟩
abbrev S_ : Shape := ⟨0, ![]⟩
abbrev S8x16x2048x1 : Shape := ⟨4, ![8, 16, 2048, 1]⟩
abbrev S8x16x1x2048 : Shape := ⟨4, ![8, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x16x64 : Shape := ⟨4, ![8, 2048, 16, 64]⟩
abbrev S8x2048x1024 : Shape := ⟨3, ![8, 2048, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x16x2048x64, .f32⟩
  | .hbm, ⟨1, _⟩ => ⟨S8x16x2048x64, .f32⟩
  | .hbm, ⟨2, _⟩ => ⟨S8x16x2048x64, .f32⟩
  | .hbm, ⟨3, _⟩ => ⟨S8x16x2048, .f32⟩
  | .hbm, ⟨4, _⟩ => ⟨S8x16x2048x2048, .f32⟩
  | .hbm, ⟨5, _⟩ => ⟨S_, .f32⟩
  | .hbm, ⟨6, _⟩ => ⟨S8x16x2048x2048, .f32⟩
  | .hbm, ⟨7, _⟩ => ⟨S8x16x2048x2048, .f32⟩
  | .hbm, ⟨8, _⟩ => ⟨S8x16x2048x1, .f32⟩
  | .hbm, ⟨9, _⟩ => ⟨S8x16x1x2048, .f32⟩
  | .hbm, ⟨10, _⟩ => ⟨S8x16x2048x2048, .f32⟩
  | .hbm, ⟨11, _⟩ => ⟨S8x16x2048x2048, .f32⟩
  | .hbm, ⟨12, _⟩ => ⟨S8x16x2048x2048, .f32⟩
  | .hbm, ⟨13, _⟩ => ⟨S8x16x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x16x2048x2048, .i1⟩
  | .hbm, ⟨24, _⟩ => ⟨S8x16x2048x2048, .f32⟩
  | .hbm, ⟨25, _⟩ => ⟨S8x16x2048x2048, .f32⟩
  | .hbm, ⟨26, _⟩ => ⟨S_, .f32⟩
  | .hbm, ⟨27, _⟩ => ⟨S8x16x2048, .f32⟩
  | .hbm, ⟨28, _⟩ => ⟨S_, .f32⟩
  | .hbm, ⟨29, _⟩ => ⟨S8x16x2048, .f32⟩
  | .hbm, ⟨30, _⟩ => ⟨S8x16x2048, .f32⟩
  | .hbm, ⟨31, _⟩ => ⟨S8x16x2048x1, .f32⟩
  | .hbm, ⟨32, _⟩ => ⟨S8x16x2048x2048, .f32⟩
  | .hbm, ⟨33, _⟩ => ⟨S8x16x2048x2048, .f32⟩
  | .hbm, ⟨34, _⟩ => ⟨S8x16x2048x2048, .f32⟩
  | .hbm, ⟨35, _⟩ => ⟨S_, .f32⟩
  | .hbm, ⟨36, _⟩ => ⟨S8x16x2048, .f32⟩
  | .hbm, ⟨37, _⟩ => ⟨S8x16x2048x1, .f32⟩
  | .hbm, ⟨38, _⟩ => ⟨S8x16x2048x2048, .f32⟩
  | .hbm, ⟨39, _⟩ => ⟨S8x16x2048x2048, .f32⟩
  | .hbm, ⟨40, _⟩ => ⟨S8x16x2048x64, .f32⟩
  | .hbm, ⟨41, _⟩ => ⟨S8x2048x16x64, .f32⟩
  | .hbm, ⟨42, _⟩ => ⟨S8x2048x1024, .f32⟩
  | .hbm, ⟨43, _⟩ => ⟨S8x2048x1024, .bf16⟩
  | _, _ => ⟨S8x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S16384x1024, .f32⟩
  | .hbm, ⟨7, _⟩ => ⟨S16384x1024, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S2x1024x4096, .bf16⟩
  | .hbm, ⟨13, _⟩ => ⟨S2x4096x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S8x2048x1024, .f32⟩
  | .hbm, ⟨7, _⟩ => ⟨S1024x1024, .f32⟩
  | .hbm, ⟨8, _⟩ => ⟨S8x2048x1024, .f32⟩
  | .hbm, ⟨9, _⟩ => ⟨S8x2048x1024, .f32⟩
  | .hbm, ⟨10, _⟩ => ⟨S1x1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S1x1024x4096, .f32⟩
  | .hbm, ⟨29, _⟩ => ⟨S1024x4096, .f32⟩
  | .hbm, ⟨30, _⟩ => ⟨S8x2048x4096, .f32⟩
  | .hbm, ⟨31, _⟩ => ⟨S_, .f32⟩
  | .hbm, ⟨32, _⟩ => ⟨S8x2048x4096, .f32⟩
  | .hbm, ⟨33, _⟩ => ⟨S8x2048x4096, .f32⟩
  | .hbm, ⟨34, _⟩ => ⟨S8x2048x4096, .f32⟩
  | .hbm, ⟨35, _⟩ => ⟨S1x4096x1024, .f32⟩
  | .hbm, ⟨36, _⟩ => ⟨S4096x1024, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_cst : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x16x64 : Shape := ⟨3, ![1, 16, 64]⟩
abbrev S1x1024 : Shape := ⟨2, ![1, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S16x64 : Shape := ⟨2, ![16, 64]⟩
abbrev S1024 : Shape := ⟨1, ![1024]⟩
abbrev S1024x1024 : Shape := ⟨2, ![1024, 1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S512x128 : Shape := ⟨2, ![512, 128]⟩
abbrev S512 : Shape := ⟨1, ![512]⟩
abbrev S512x1 : Shape := ⟨2, ![512, 1]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩

abbrev nBuf : Space → Nat
  | .hbm => 34
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .bf16⟩
  | .hbm, ⟨3, _⟩ => ⟨S8x2048x1024, .bf16⟩
  | .hbm, ⟨4, _⟩ => ⟨S8x2048x1024, .bf16⟩
  | .hbm, ⟨5, _⟩ => ⟨S8x2048x1024, .bf16⟩
  | .hbm, ⟨6, _⟩ => ⟨S1x16x64, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S16x64, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S16384x1024, .f32⟩
  | .hbm, ⟨22, _⟩ => ⟨S16384x1024, .f32⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S1024, .f32⟩
  | .hbm, ⟨27, _⟩ => ⟨S2x1024x4096, .bf16⟩
  | .hbm, ⟨28, _⟩ => ⟨S2x4096x1024, .bf16⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1x1024x4096, .bf16⟩
  | .local _ .vmem, ⟨18, _⟩ => ⟨S1x4096x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8x2048x1024 : Shape := ⟨3, ![8, 2048, 1024]⟩
abbrev S1x16x64 : Shape := ⟨3, ![1, 16, 64]⟩
abbrev S1x1024 : Shape := ⟨2, ![1, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S8x2048x16x64 : Shape := ⟨4, ![8, 2048, 16, 64]⟩
abbrev S_ : Shape := ⟨0, ![]⟩
abbrev S8x2048x16 : Shape := ⟨3, ![8, 2048, 16]⟩
abbrev S8x2048x16x1 : Shape := ⟨4, ![8, 2048, 16, 1]⟩
abbrev S1024 : Shape := ⟨1, ![1024]⟩
abbrev S1x1x1024 : Shape := ⟨3, ![1, 1, 1024]⟩
abbrev S16x64 : Shape := ⟨2, ![16, 64]⟩
abbrev S1x1x16x64 : Shape := ⟨4, ![1, 1, 16, 64]⟩
abbrev S1024x1024 : Shape := ⟨2, ![1024, 1024]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .bf16⟩
  | .hbm, ⟨3, _⟩ => ⟨S8x2048x1024, .bf16⟩
  | .hbm, ⟨4, _⟩ => ⟨S8x2048x1024, .bf16⟩
  | .hbm, ⟨5, _⟩ => ⟨S8x2048x1024, .bf16⟩
  | .hbm, ⟨6, _⟩ => ⟨S1x16x64, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S8x2048x1024, .f32⟩
  | .hbm, ⟨14, _⟩ => ⟨S8x2048x16x64, .f32⟩
  | .hbm, ⟨15, _⟩ => ⟨S8x2048x1024, .f32⟩
  | .hbm, ⟨16, _⟩ => ⟨S8x2048x16x64, .f32⟩
  | .hbm, ⟨17, _⟩ => ⟨S8x2048x1024, .f32⟩
  | .hbm, ⟨18, _⟩ => ⟨S8x2048x16x64, .f32⟩
  | .hbm, ⟨19, _⟩ => ⟨S8x2048x16x64, .f32⟩
  | .hbm, ⟨20, _⟩ => ⟨S_, .f32⟩
  | .hbm, ⟨21, _⟩ => ⟨S8x2048x16, .f32⟩
  | .hbm, ⟨22, _⟩ => ⟨S8x2048x16x1, .f32⟩
  | .hbm, ⟨23, _⟩ => ⟨S_, .f32⟩
  | .hbm, ⟨24, _⟩ => ⟨S8x2048x16x1, .f32⟩
  | .hbm, ⟨25, _⟩ => ⟨S8x2048x16x1, .f32⟩
  | .hbm, ⟨26, _⟩ => ⟨S8x2048x16x64, .f32⟩
  | .hbm, ⟨27, _⟩ => ⟨S8x2048x16x64, .f32⟩
  | .hbm, ⟨28, _⟩ => ⟨S8x2048x16x64, .f32⟩
  | .hbm, ⟨29, _⟩ => ⟨S_, .f32⟩
  | .hbm, ⟨30, _⟩ => ⟨S8x2048x16, .f32⟩
  | .hbm, ⟨31, _⟩ => ⟨S8x2048x16x1, .f32⟩
  | .hbm, ⟨32, _⟩ => ⟨S_, .f32⟩
  | .hbm, ⟨33, _⟩ => ⟨S8x2048x16x1, .f32⟩
  | .hbm, ⟨34, _⟩ => ⟨S8x2048x16x1, .f32⟩
  | .hbm, ⟨35, _⟩ => ⟨S8x2048x16x64, .f32⟩
  | .hbm, ⟨36, _⟩ => ⟨S8x2048x16x64, .f32⟩
  | .hbm, ⟨37, _⟩ => ⟨S_, .f32⟩
  | .hbm, ⟨38, _⟩ => ⟨S8x2048x16x1, .f32⟩
  | .hbm, ⟨39, _⟩ => ⟨S8x2048x16x1, .f32⟩
  | .hbm, ⟨40, _⟩ => ⟨S8x2048x16x1, .f32⟩
  | .hbm, ⟨41, _⟩ => ⟨S8x2048x16x64, .f32⟩
  | .hbm, ⟨42, _⟩ => ⟨S8x2048x16x64, .f32⟩
  | .hbm, ⟨43, _⟩ => ⟨S8x2048x1024, .f32⟩
  | .hbm, ⟨44, _⟩ => ⟨S1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S8x2048x16x64, .f32⟩
  | .hbm, ⟨53, _⟩ => ⟨S16x64, .f32⟩
  | .hbm, ⟨54, _⟩ => ⟨S1x1x16x64, .f32⟩
  | .hbm, ⟨55, _⟩ => ⟨S8x2048x16x64, .f32⟩
  | .hbm, ⟨56, _⟩ => ⟨S8x2048x16x64, .f32⟩
  | .hbm, ⟨57, _⟩ => ⟨S_, .f32⟩
  | .hbm, ⟨58, _⟩ => ⟨S8x2048x16, .f32⟩
  | .hbm, ⟨59, _⟩ => ⟨S8x2048x16x1, .f32⟩
  | .hbm, ⟨60, _⟩ => ⟨S8x2048x16x64, .f32⟩
  | .hbm, ⟨61, _⟩ => ⟨S8x2048x16x64, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S1024x1024, .f32⟩
  | .hbm, ⟨67, _⟩ => ⟨S8x2048x1024, .f32⟩
  | .hbm, ⟨68, _⟩ => ⟨S8x2048x1024, .f32⟩
  | .hbm, ⟨69, _⟩ => ⟨S1x1024, .f32⟩
  | .hbm, ⟨70, _⟩ => ⟨S1024, .f32⟩
  | .hbm, ⟨71, _⟩ => ⟨S8x2048x1024, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S8x2048x1, .f32⟩
  | .hbm, ⟨82, _⟩ => ⟨S8x2048x1024, .f32⟩
  | .hbm, ⟨83, _⟩ => ⟨S8x2048x1024, .f32⟩
  | .hbm, ⟨84, _⟩ => ⟨S1x1x1024, .f32⟩
  | .hbm, ⟨85, _⟩ => ⟨S8x2048x1024, .f32⟩
  | .hbm, ⟨86, _⟩ => ⟨S8x2048x1024, .f32⟩
  | .hbm, ⟨87, _⟩ => ⟨S1x1024x4096, .f32⟩
  | .hbm, ⟨88, _⟩ => ⟨S1024x4096, .f32⟩
  | .hbm, ⟨89, _⟩ => ⟨S8x2048x4096, .f32⟩
  | .hbm, ⟨90, _⟩ => ⟨S_, .f32⟩
  | .hbm, ⟨91, _⟩ => ⟨S8x2048x4096, .f32⟩
  | .hbm, ⟨92, _⟩ => ⟨S8x2048x4096, .f32⟩
  | .hbm, ⟨93, _⟩ => ⟨S8x2048x4096, .f32⟩
  | .hbm, ⟨94, _⟩ => ⟨S1x4096x1024, .f32⟩
  | .hbm, ⟨95, _⟩ => ⟨S4096x1024, .f32⟩
  | .hbm, ⟨96, _⟩ => ⟨S8x2048x1024, .f32⟩
  | .hbm, ⟨97, _⟩ => ⟨S8x2048x1024, .f32⟩
  | .hbm, ⟨98, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call0_cst : Ref sig .tc := ⟨.hbm, 90, rfl⟩
abbrev main_call0_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Proof.Fox.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

/-! The claims about the forgetting attention (`kernel` of the test file) that say nothing of its values: it runs and
keeps its arguments, and its two named constants. -/

namespace Cert.Fox

open Idealize.ShloMosaic Idealize.SL.Sem

/-- The kernel runs, keeps its arguments and ends with every counter at zero. -/
theorem frame_kernel : Cert.quiescent_Kernel := fun m g _ => Cert.Kernel.Gen.frame m g

/-- So does its reading over the extended reals. -/
theorem frame_ideal : Cert.quiescent_KernelIdeal := fun m g _ => Cert.KernelIdeal.Gen.frame m g

/-- So does the reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The mask is the name of minus infinity, the logits' factor that of `1 / log 2`. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

end Cert.Fox

end
-- ==== Proof.Fox.Online.lean ====
module

public import Idealize.ShloMosaic.PureOps.Ideal

@[expose] public section

noncomputable section

namespace Cert.Fox

open Idealize.ShloMosaic

/-- The factor between the base-two and the natural exponent. -/
def LG : EReal := (((Real.log 2)⁻¹ : ℝ) : EReal)

theorem lg_pos : 0 < (Real.log 2)⁻¹ := inv_pos.mpr (Real.log_pos (by norm_num))

/-- `2 ^ x` is a non-negative real wherever `x ≤ 0`. -/
theorem exp2_nonneg (x : EReal) : 0 ≤ Ideal.exp2 x := by
  induction x with
  | bot => simp
  | top => simp
  | coe r => rw [Ideal.exp2_coe]; exact EReal.coe_nonneg.mpr (Real.rpow_nonneg (by norm_num) r)

theorem exp2_ne_top {x : EReal} (h : x ≠ ⊤) : Ideal.exp2 x ≠ ⊤ := by
  induction x with
  | bot => simp
  | top => exact absurd rfl h
  | coe r => rw [Ideal.exp2_coe]; exact EReal.coe_ne_top _

theorem sub_ne_top_of_le {a b : EReal} (h : a ≤ b) : a - b ≠ ⊤ := by
  induction b with
  | bot => rw [le_bot_iff.mp h]; decide
  | top => rw [EReal.sub_top]; exact bot_ne_top
  | coe r =>
    induction a with
    | bot => rw [EReal.bot_sub]; exact bot_ne_top
    | top => exact absurd h (not_le.mpr (EReal.coe_lt_top r))
    | coe s => rw [← EReal.coe_sub]; exact EReal.coe_ne_top _

/-- Two rescalings in a row are one. -/
theorem exp2_shift {s a b : EReal} (h : s ≤ a) (h' : a ≤ b) :
    Ideal.exp2 (a - b) * Ideal.exp2 (s - a) = Ideal.exp2 (s - b) := by
  induction b with
  | bot =>
    obtain rfl := le_bot_iff.mp h'
    obtain rfl := le_bot_iff.mp h
    rw [EReal.bot_sub, Ideal.exp2_bot, zero_mul]
  | top => rw [EReal.sub_top, EReal.sub_top, Ideal.exp2_bot, zero_mul]
  | coe r =>
    induction a with
    | bot =>
      obtain rfl := le_bot_iff.mp h
      rw [EReal.bot_sub, EReal.bot_sub, Ideal.exp2_bot, zero_mul]
    | top => exact absurd h' (not_le.mpr (EReal.coe_lt_top r))
    | coe a =>
      induction s with
      | bot => rw [EReal.bot_sub, EReal.bot_sub, Ideal.exp2_bot, mul_zero]
      | top => exact absurd h (not_le.mpr (EReal.coe_lt_top a))
      | coe s =>
        rw [← EReal.coe_sub, ← EReal.coe_sub, ← EReal.coe_sub, Ideal.exp2_coe, Ideal.exp2_coe, Ideal.exp2_coe,
          ← EReal.coe_mul]
        congr 1
        show (2 : ℝ) ^ (a - r) * (2 : ℝ) ^ (s - a) = (2 : ℝ) ^ (s - r)
        rw [← Real.rpow_add (by norm_num)]
        congr 1; ring

/-- A finite non-negative factor goes into a sum. -/
theorem scale_sum {ι : Type*} {r : EReal} (h0 : 0 ≤ r) (ht : r ≠ ⊤) (S : Finset ι) (f : ι → EReal) :
    r * ∑ i ∈ S, f i = ∑ i ∈ S, r * f i := by
  classical
  induction S using Finset.induction_on with
  | empty => simp
  | insert a S ha ih =>
    rw [Finset.sum_insert ha, Finset.sum_insert ha, EReal.left_distrib_of_nonneg_of_ne_top h0 ht, ih]

variable (S : ℕ → Fin 256 → EReal) (V : ℕ → Fin 256 → EReal)

/-- The running maximum after the first `n` tiles of scores. -/
def peak : ℕ → EReal
  | 0 => ⊥
  | n + 1 => max (peak n) (Finset.univ.fold max ⊥ (S n))

theorem peak_le_iff (n : ℕ) (u : EReal) : peak S n ≤ u ↔ ∀ j < n, ∀ κ, S j κ ≤ u := by
  induction n with
  | zero => simp [peak]
  | succ n ih =>
    rw [peak, max_le_iff, ih, Finset.fold_max_le]
    constructor
    · rintro ⟨h, -, h'⟩ j hj κ
      rcases Nat.lt_succ_iff_lt_or_eq.mp hj with hj | rfl
      · exact h j hj κ
      · exact h' κ (Finset.mem_univ _)
    · exact fun h => ⟨fun j hj => h j (hj.trans n.lt_succ_self), bot_le, fun κ _ => h n n.lt_succ_self κ⟩

theorem le_peak {n j : ℕ} (h : j < n) (κ : Fin 256) : S j κ ≤ peak S n := (peak_le_iff S n _).mp le_rfl j h κ

theorem peak_le_succ (n : ℕ) : peak S n ≤ peak S (n + 1) := le_max_left _ _

/-- The weighted sum that the first `n` tiles contribute, at the running maximum. -/
def part (n : ℕ) : EReal := ∑ j ∈ Finset.range n, ∑ κ, V j κ * Ideal.exp2 (S j κ - peak S n)

theorem part_zero : part S V 0 = 0 := by simp [part]

/-- One trip: the accumulator is rescaled to the new maximum and the tile's contribution added. -/
theorem part_succ (n : ℕ) :
    Ideal.exp2 (peak S n - peak S (n + 1)) * part S V n + ∑ κ, V n κ * Ideal.exp2 (S n κ - peak S (n + 1))
      = part S V (n + 1) := by
  rw [part, part, Finset.sum_range_succ, scale_sum (exp2_nonneg _) (exp2_ne_top (sub_ne_top_of_le (peak_le_succ S n)))]
  congr 1
  refine Finset.sum_congr rfl fun j hj => ?_
  rw [scale_sum (exp2_nonneg _) (exp2_ne_top (sub_ne_top_of_le (peak_le_succ S n)))]
  refine Finset.sum_congr rfl fun κ _ => ?_
  rw [mul_left_comm, exp2_shift (le_peak S (Finset.mem_range.mp hj) κ) (peak_le_succ S n)]

/-! ### Against the softmax -/

theorem lg_mul_le {a b : EReal} (h : a ≤ b) : LG * a ≤ LG * b :=
  mul_le_mul_of_nonneg_left h (EReal.coe_nonneg.mpr lg_pos.le)

theorem lg_mul_bot : LG * ⊥ = ⊥ := EReal.coe_mul_bot_of_pos lg_pos

/-- The maximum of the scaled scores is the scaled maximum. -/
theorem peak_eq (X : ℕ → Fin 256 → EReal) (n : ℕ) (M : EReal) (hM : ∀ u, M ≤ u ↔ ∀ j < n, ∀ κ, X j κ ≤ u) :
    peak (fun j κ => LG * X j κ) n = LG * M := by
  have hc : ∀ a : EReal, ((Real.log 2 : ℝ) : EReal) * (LG * a) = a := fun a => by
    rw [LG, ← mul_assoc, ← EReal.coe_mul, mul_inv_cancel₀ (Real.log_pos (by norm_num)).ne', EReal.coe_one, one_mul]
  have hl : (0 : EReal) ≤ ((Real.log 2 : ℝ) : EReal) := EReal.coe_nonneg.mpr (Real.log_pos (by norm_num)).le
  refine le_antisymm ((peak_le_iff _ n _).mpr fun j hj κ => lg_mul_le ((hM M).mp le_rfl j hj κ)) ?_
  have : M ≤ ((Real.log 2 : ℝ) : EReal) * peak (fun j κ => LG * X j κ) n := by
    refine (hM _).mpr fun j hj κ => ?_
    rw [← hc (X j κ)]
    exact mul_le_mul_of_nonneg_left (le_peak (fun j κ => LG * X j κ) hj κ) hl
  refine (lg_mul_le this).trans (le_of_eq ?_)
  rw [← mul_assoc, LG, ← EReal.coe_mul, inv_mul_cancel₀ (Real.log_pos (by norm_num)).ne', EReal.coe_one, one_mul]

/-- The base-two exponent of scaled scores is the natural one. -/
theorem exp2_lg {x : EReal} (hx : x ≠ ⊤) (M : ℝ) : Ideal.exp2 (LG * x - LG * (M : EReal)) = Ideal.exp (x - (M : EReal)) := by
  induction x with
  | bot => rw [lg_mul_bot, EReal.bot_sub, EReal.bot_sub]; rfl
  | top => exact absurd rfl hx
  | coe x =>
    rw [LG, ← EReal.coe_mul, ← EReal.coe_mul, ← EReal.coe_sub, ← EReal.coe_sub, Ideal.exp2_coe, Ideal.exp_coe]
    congr 1
    rw [Real.rpow_eq_pow, Real.rpow_def_of_pos (by norm_num), ← mul_sub, ← mul_assoc,
      mul_inv_cancel₀ (Real.log_pos (by norm_num)).ne', one_mul]

theorem exp_real {x : EReal} (hx : x ≠ ⊤) (M : ℝ) : ∃ r : ℝ, 0 ≤ r ∧ Ideal.exp (x - (M : EReal)) = (r : EReal) := by
  induction x with
  | bot => exact ⟨0, le_rfl, by rw [EReal.bot_sub]; rfl⟩
  | top => exact absurd rfl hx
  | coe x => exact ⟨Real.exp (x - M), (Real.exp_pos _).le, by rw [← EReal.coe_sub, Ideal.exp_coe]⟩

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- THE ATTENTION ROW. What the sweep over `n` tiles leaves, the weighted sum times the reciprocal of the sum of the
    weights, is the softmax of the scores dotted with the values: the scores below `⊤`, one of them a real, the tiles from
    `n` on masked. -/
theorem row_eq (X : ℕ → Fin 256 → EReal) (n k : ℕ) (hnk : n ≤ k) (M : EReal)
    (hM : ∀ u, M ≤ u ↔ ∀ j < k, ∀ κ, X j κ ≤ u) (ht : ∀ j κ, X j κ ≠ ⊤) (hb : ∀ j, n ≤ j → ∀ κ, X j κ = ⊥)
    (j₀ : ℕ) (hj₀ : j₀ < n) (κ₀ : Fin 256) (h₀ : X j₀ κ₀ ≠ ⊥) :
    part (fun j κ => LG * X j κ) V n * Ideal.div 1 (part (fun j κ => LG * X j κ) (fun _ _ => 1) n)
      = ∑ j ∈ Finset.range k, ∑ κ, Ideal.div (Ideal.exp (X j κ - M))
          (∑ j ∈ Finset.range k, ∑ κ, Ideal.exp (X j κ - M)) * V j κ := by
  have hMn : ∀ u, M ≤ u ↔ ∀ j < n, ∀ κ, X j κ ≤ u := fun u =>
    (hM u).trans ⟨fun h j hj => h j (hj.trans_le hnk), fun h j hj κ => by
      by_cases hj' : j < n
      · exact h j hj' κ
      · rw [hb j (not_lt.mp hj') κ]; exact bot_le⟩
  have hMt : M ≠ ⊤ := by
    have hlt : ∀ m ≤ n, peak X m ≠ ⊤ := by
      intro m
      induction m with
      | zero => intro _; exact bot_ne_top
      | succ m ih =>
        intro hm
        rw [peak]
        refine (max_lt (lt_top_iff_ne_top.mpr (ih (by omega))) ?_).ne
        rw [Finset.fold_max_lt]
        exact ⟨bot_lt_top, fun κ _ => lt_top_iff_ne_top.mpr (ht m κ)⟩
    refine ne_top_of_le_ne_top (hlt n le_rfl) ((hMn _).mpr fun j hj κ => le_peak X hj κ)
  have hMb : M ≠ ⊥ := by
    intro h
    have := (hMn M).mp le_rfl j₀ hj₀ κ₀
    rw [h, le_bot_iff] at this
    exact h₀ this
  lift M to ℝ using ⟨hMt, hMb⟩
  choose w hw0 hw using fun j κ => exp_real (ht j κ) M
  have hpk : peak (fun j κ => LG * X j κ) n = LG * (M : EReal) := peak_eq X n M hMn
  have hz : ∀ j, n ≤ j → ∀ κ, w j κ = 0 := fun j hj κ => by
    have h := hw j κ
    rw [hb j hj κ, EReal.bot_sub, Ideal.exp_bot] at h
    exact (EReal.coe_eq_zero.mp h.symm)
  have hcut : ∀ f : ℕ → EReal, (∀ j, n ≤ j → f j = 0) → ∑ j ∈ Finset.range k, f j = ∑ j ∈ Finset.range n, f j :=
    fun f hf => (Finset.sum_subset (Finset.range_subset_range.mpr hnk) fun j _ hj =>
      hf j (not_lt.mp fun h => hj (Finset.mem_range.mpr h))).symm
  have hpart : ∀ U : ℕ → Fin 256 → EReal,
      part (fun j κ => LG * X j κ) U n = ∑ j ∈ Finset.range n, ∑ κ, U j κ * (w j κ : EReal) := fun U => by
    unfold part
    refine Finset.sum_congr rfl fun j _ => Finset.sum_congr rfl fun κ _ => ?_
    rw [hpk, exp2_lg (ht j κ) M, hw]
  set W : ℝ := ∑ j ∈ Finset.range n, ∑ κ, w j κ with hW
  have hWp : 0 < W := by
    have h1 : w j₀ κ₀ ≤ W := by
      refine le_trans ?_ (Finset.single_le_sum (f := fun j => ∑ κ, w j κ)
        (fun j _ => Finset.sum_nonneg fun κ _ => hw0 j κ) (Finset.mem_range.mpr hj₀))
      exact Finset.single_le_sum (f := fun κ => w j₀ κ) (fun κ _ => hw0 j₀ κ) (Finset.mem_univ κ₀)
    refine lt_of_lt_of_le ?_ h1
    obtain ⟨x, hx⟩ : ∃ x : ℝ, X j₀ κ₀ = (x : EReal) := by
      refine ⟨(X j₀ κ₀).toReal, (EReal.coe_toReal (ht _ _) h₀).symm⟩
    have h := hw j₀ κ₀
    rw [hx, ← EReal.coe_sub, Ideal.exp_coe] at h
    rw [← EReal.coe_injective h]
    exact Real.exp_pos _
  have hWsum : ∑ j ∈ Finset.range n, ∑ κ, (w j κ : EReal) = (W : EReal) := by
    rw [hW, coe_sum]
    exact Finset.sum_congr rfl fun j _ => (coe_sum _ _).symm
  have hden : ∑ j ∈ Finset.range k, ∑ κ, Ideal.exp (X j κ - (M : EReal)) = (W : EReal) := by
    rw [← hWsum, ← hcut (fun j => ∑ κ, (w j κ : EReal)) fun j hj => Finset.sum_eq_zero fun κ _ => by
      rw [hz j hj κ, EReal.coe_zero]]
    exact Finset.sum_congr rfl fun j _ => Finset.sum_congr rfl fun κ _ => hw j κ
  have hW0 : (W : EReal) ≠ 0 := fun h => hWp.ne' (EReal.coe_eq_zero.mp h)
  have hone : part (fun j κ => LG * X j κ) (fun _ _ => 1) n = (W : EReal) := by
    rw [hpart, ← hWsum]
    exact Finset.sum_congr rfl fun j _ => Finset.sum_congr rfl fun κ _ => one_mul _
  rw [hone, hden, hpart V, hcut _ fun j hj => Finset.sum_eq_zero fun κ _ => by
    rw [hw, hz j hj κ, EReal.coe_zero, Ideal.div, if_neg hW0, zero_mul, zero_mul]]
  rw [Ideal.div, if_neg hW0, one_mul, mul_comm, ← EReal.coe_inv]
  rw [scale_sum (EReal.coe_nonneg.mpr (inv_nonneg.mpr hWp.le)) (EReal.coe_ne_top _)]
  refine Finset.sum_congr rfl fun j _ => ?_
  rw [scale_sum (EReal.coe_nonneg.mpr (inv_nonneg.mpr hWp.le)) (EReal.coe_ne_top _)]
  refine Finset.sum_congr rfl fun κ _ => ?_
  rw [hw, Ideal.div, if_neg hW0, ← EReal.coe_inv, mul_comm (V j κ), ← mul_assoc, mul_comm (W⁻¹ : ℝ).toEReal]

end Cert.Fox

end
-- ==== Proof.Fox.Spec.lean ====
module

public import proofs.«01_k».proof.Proof.Fox.Online
public import Idealize.ShloMosaic.Lib.WordCmp

@[expose] public section

noncomputable section

namespace Cert.Fox

open Idealize.ShloMosaic

/-- The scale of the scores, one eighth. -/
def scl : EReal := ((1 / 8 : ℝ) : EReal)

/-- The logit of query `t` at key `s`: the scaled score plus the decay from `s` to `t`; minus infinity where the key
    comes after the query. -/
def logit (qr kr : Fin 64 → EReal) (ct cs : EReal) (t s : ℕ) : EReal :=
  if s ≤ t then (∑ d, qr d * kr d) * scl + (ct - cs) else ⊥

theorem neg_inf : Ideal.ofBits FTy.f32 0xFF800000#32 = ⊥ := by
  simp [Ideal.ofBits, Ideal.ieee]

theorem eighth : Ideal.ofBits FTy.f32 0x3E000000#32 = ((1 / 8 : ℝ) : EReal) := by
  simp [Ideal.ofBits, Ideal.ieee, -EReal.coe_mul]; norm_num

/-- A choice by a signed comparison of two small numbers. -/
theorem sle {α : Type} {a b : ℕ} (ha : a < 2048) (hb : b < 2048) (x y : α) :
    Scalar.select (IntOp.cmpi CmpIPredicate.sle (BitVec.ofNat 32 a) (BitVec.ofNat 32 b)) x y = if a ≤ b then x else y := by
  rw [Idealize.ShloMosaic.WordCmp.cmpi_sle_ofNat (by omega) (by omega)]
  by_cases h : a ≤ b <;> simp [h, Scalar.select]

theorem sge {α : Type} {a b : ℕ} (ha : a < 2048) (hb : b < 2048) (x y : α) :
    Scalar.select (IntOp.cmpi CmpIPredicate.sge (BitVec.ofNat 32 a) (BitVec.ofNat 32 b)) x y = if b ≤ a then x else y := by
  rw [Idealize.ShloMosaic.WordCmp.cmpi_sge_ofNat (by omega) (by omega)]
  by_cases h : b ≤ a <;> simp [h, Scalar.select]

end Cert.Fox

end
-- ==== Proof.Fox.Tile.lean ====
module

public import proofs.«01_k».proof.Proof.Fox.Spec
public import proofs.«01_k».proof.Proof.Gen.KernelIdeal.Loops
public import Idealize.ShloMosaic.Lib.Pipeline.ValueKit
public import Idealize.ShloMosaic.Lib.WritesUnit

@[expose] public section

set_option maxRecDepth 16384

noncomputable section

/-! What one step over a tile of 256 keys computes for one head, at an index. -/

namespace Cert.KernelIdeal.Fox

open Cert.KernelIdeal Cert.KernelIdeal.Gen Idealize.ShloMosaic Idealize.ShloMosaic.TcCoe Idealize.SL.Sem
open Cert.Fox

theorem lg_named (b : BitVec (FTy.f32).bits) : (Named.named (F := Ideal) κ "log2e" (φ := .f32) b) = LG :=
  IdealRules.named_const.ideal_named_scalar _ _ _ _ rfl

theorem mask_named (b : BitVec (FTy.f32).bits) : (Named.named (F := Ideal) κ "mask" (φ := .f32) b) = (⊥ : EReal) :=
  IdealRules.named_const.ideal_named_scalar _ _ _ _ rfl

/-- The scores of a tile, in the base of the kernel's exponent. -/
def scores (Q : FVec Ideal S80x256 .bf16) (kt : FVec Ideal S1x1x256x80 .bf16) : FVec Ideal S256x256 .f32 := k0_pay2 Q kt

theorem scores_at (Q : FVec Ideal S80x256 .bf16) (kt : FVec Ideal S1x1x256x80 .bf16) (κ q : Fin 256) :
    scores Q kt (ix2 κ q) = LG * ∑ d : Fin 80, kt (ix4 0 0 κ d) * Q (ix2 d q) := by
  rw [mul_comm]
  pointwise [scores, k0_pay2, lg_named]

/-- The scores of the tile on the diagonal: minus infinity above it. -/
def scoresD (Q : FVec Ideal S80x256 .bf16) (kt : FVec Ideal S1x1x256x80 .bf16) : FVec Ideal S256x256 .f32 :=
  select k0_pay194 (scores Q kt) (broadcast S256x256 (Named.named κ "mask" 0xF149F2CA#32 : Ideal .f32))

theorem scoresD_at (Q : FVec Ideal S80x256 .bf16) (kt : FVec Ideal S1x1x256x80 .bf16) (κ q : Fin 256) :
    scoresD Q kt (ix2 κ q) = if κ.val ≤ q.val then scores Q kt (ix2 κ q) else ⊥ := by
  pointwise [scoresD, k0_pay194, mask_named]
  exact sle (by omega) (by omega) _ _

/-- The running maximum after a tile. -/
def top (m : FVec Ideal S1x256 .f32) (s : FVec Ideal S256x256 .f32) : FVec Ideal S1x256 .f32 := k0_pay9 m s

theorem top_at (m : FVec Ideal S1x256 .f32) (s : FVec Ideal S256x256 .f32) (q : Fin 256) :
    top m s (ix2 0 q) = max (m (ix2 0 q)) (Finset.univ.fold max ⊥ fun κ : Fin 256 => s (ix2 κ q)) := by
  pointwise [top, k0_pay9]
  rw [neg_inf]

/-- The accumulated products after a tile. -/
def acc (m : FVec Ideal S1x256 .f32) (s : FVec Ideal S256x256 .f32) (a : FVec Ideal S1x80x256 .f32)
    (vt : FVec Ideal S1x1x1x80x256 .bf16) : FVec Ideal S1x80x256 .f32 := k0_pay37 (k0_pay10 m s) (k0_pay11 m s) a vt

theorem acc_at (m : FVec Ideal S1x256 .f32) (s : FVec Ideal S256x256 .f32) (a : FVec Ideal S1x80x256 .f32)
    (vt : FVec Ideal S1x1x1x80x256 .bf16) (d : Fin 80) (q : Fin 256) :
    acc m s a vt (ix3 0 d q) = Ideal.exp2 (m (ix2 0 q) - top m s (ix2 0 q)) * a (ix3 0 d q)
      + ∑ κ : Fin 256, vt (ix5 0 0 0 d κ) * Ideal.exp2 (s (ix2 κ q) - top m s (ix2 0 q)) := by
  have h : k0_pay9 (F := Ideal) m s = top m s := rfl
  pointwise [acc, k0_pay37, k0_pay10, k0_pay11, h]
  rfl

/-- The products divided by the weights' sum. -/
theorem quot_at (a : FVec Ideal S1x64x256 .f32) (l : FVec Ideal S1x1x256 .f32) (d : Fin 64) (q : Fin 256) :
    k0_pay306 (F := Ideal) a l (ix2 d q) = a (ix3 0 d q) * Ideal.div 1 (l (ix3 0 0 q)) := by
  pointwise [k0_pay306]

/-- A tile of keys of head `h`, read from the key operand. -/
theorem key_tile {a : Memref sig .tc .vmem S1x16x2048x128 .bf16} (ha : a.IsWhole) (x : FVec Ideal S1x16x2048x128 .bf16)
    {off : Fin 4 → ℕ} (hb : ∀ y, off y + S1x1x256x80.size y ≤ S1x16x2048x128.size y) (h : Fin 16) (n : ℕ) (hn : n < 8)
    (ho : off = ![0, h.val, n * 256, 0]) (κ : Fin 256) (d : Fin 80) :
    (View.readAt (Elt Ideal) a.view (Rect.unit (s := S1x16x2048x128) off S1x1x256x80.size hb).toLoadRect (ha.unread x) :
      FVec Ideal S1x1x256x80 .bf16) (ix4 0 0 κ d) = x (ix4 0 h ⟨(n * 256 + κ.val) % 2048, by omega⟩ ⟨d.val, by omega⟩) := by
  subst ho
  rw [View.readAt_eq_ld, Memref.IsWhole.read_unread]
  pointwise
  exact congrArg (fun r => x (ix4 0 h r ⟨d.val, by omega⟩)) (Fin.ext (Nat.mod_eq_of_lt (by omega)).symm)

/-- A tile of values of head `h`. -/
theorem val_tile {a : Memref sig .tc .vmem S1x16x8x80x256 .bf16} (ha : a.IsWhole) (x : FVec Ideal S1x16x8x80x256 .bf16)
    {off : Fin 5 → ℕ} (hb : ∀ y, off y + S1x1x1x80x256.size y ≤ S1x16x8x80x256.size y) (h : Fin 16) (n : ℕ) (hn : n < 8)
    (ho : off = ![0, h.val, n, 0, 0]) (d : Fin 80) (κ : Fin 256) :
    (View.readAt (Elt Ideal) a.view (Rect.unit (s := S1x16x8x80x256) off S1x1x1x80x256.size hb).toLoadRect (ha.unread x) :
      FVec Ideal S1x1x1x80x256 .bf16) (ix5 0 0 0 d κ) = x (ix5 0 h ⟨n % 8, by omega⟩ d κ) := by
  subst ho
  rw [View.readAt_eq_ld, Memref.IsWhole.read_unread]
  pointwise
  exact congrArg (fun r => x (ix5 0 h r d κ)) (Fin.ext (Nat.mod_eq_of_lt hn).symm)

/-- The query tile of head `h`. -/
theorem query_tile {a : Memref sig .tc .vmem S1x16x1x128x256 .bf16} (ha : a.IsWhole) (x : FVec Ideal S1x16x1x128x256 .bf16)
    {off : Fin 5 → ℕ} (hb : ∀ y, off y + S1x1x1x80x256.size y ≤ S1x16x1x128x256.size y) (h : Fin 16)
    (ho : off = ![0, h.val, 0, 0, 0]) (d : Fin 80) (q : Fin 256) :
    (View.readAt (Elt Ideal) a.view (Rect.unit (s := S1x16x1x128x256) off S1x1x1x80x256.size hb).toLoadRect (ha.unread x) :
      FVec Ideal S1x1x1x80x256 .bf16) (ix5 0 0 0 d q) = x (ix5 0 h 0 ⟨d.val, by omega⟩ q) := by
  subst ho
  rw [View.readAt_eq_ld, Memref.IsWhole.read_unread]
  pointwise

theorem flat_tile (v : FVec Ideal S1x1x1x80x256 .bf16) (d : Fin 80) (q : Fin 256) :
    shapeCast S80x256 v shapeCasts_S1x1x1x80x256_S80x256 (ix2 d q) = v (ix5 0 0 0 d q) := by
  pointwise

/-- The running products of head `h`, read back. -/
theorem acc_tile (a : Memref sig .tc .vmem S16x80x256 .f32) (f : BufTy.Contents (Elt Ideal) a.view.ty)
    {off : Fin 3 → ℕ} (hb : ∀ y, off y + S1x80x256.size y ≤ S16x80x256.size y) (h : Fin 16)
    (ho : off = ![h.val, 0, 0]) (d : Fin 80) (q : Fin 256) :
    (View.readAt (Elt Ideal) a.view (Rect.unit (s := S16x80x256) off S1x80x256.size hb).toLoadRect f :
      FVec Ideal S1x80x256 .f32) (ix3 0 d q) = a.view.read (Elt Ideal) f (ix3 h d q) := by
  subst ho
  rw [View.readAt_eq_ld]
  generalize a.view.read (Elt Ideal) f = x
  pointwise

/-- One tile more in the running maximum. -/
theorem top_step (S : ℕ → Fin 256 → EReal) (n : ℕ) (m : FVec Ideal S1x256 .f32) (s : FVec Ideal S256x256 .f32) (q : Fin 256)
    (hm : m (ix2 0 q) = peak S n) (hs : ∀ κ, s (ix2 κ q) = S n κ) : top m s (ix2 0 q) = peak S (n + 1) := by
  rw [top_at, hm, peak]
  exact congrArg (max _) (congrArg (fun f => Finset.fold max (⊥ : EReal) f Finset.univ) (funext hs))

/-- One tile more in the running products. -/
theorem tile_step (S V : ℕ → Fin 256 → EReal) (n : ℕ) (m : FVec Ideal S1x256 .f32) (s : FVec Ideal S256x256 .f32)
    (a : FVec Ideal S1x80x256 .f32) (vt : FVec Ideal S1x1x1x80x256 .bf16) (d : Fin 80) (q : Fin 256)
    (hm : m (ix2 0 q) = peak S n) (hs : ∀ κ, s (ix2 κ q) = S n κ) (ha : a (ix3 0 d q) = part S V n)
    (hv : ∀ κ, vt (ix5 0 0 0 d κ) = V n κ) : acc m s a vt (ix3 0 d q) = part S V (n + 1) := by
  rw [acc_at, top_step S n m s q hm hs, hm, ha, ← part_succ]
  simp only [hs, hv]

/-- What the running products hold once the heads below `j + 1` are written. -/
theorem piece_step (v : View sig .tc .vmem S16x80x256 .f32) (f : BufTy.Contents (Elt Ideal) v.ty)
    (L : List (View.Piece (Elt Ideal) S16x80x256 .f32)) (old new : Fin 16 → Fin 80 → Fin 256 → EReal) (j : ℕ) (hj : j < 16)
    (inb : ∀ y, (![j, 0, 0] : Fin 3 → ℕ) y + S1x80x256.size y ≤ S16x80x256.size y) (w : FVec Ideal S1x80x256 .f32)
    (hw : ∀ d q, w (ix3 0 d q) = new ⟨j, hj⟩ d q)
    (hL : ∀ (h : Fin 16) d q, v.read (Elt Ideal) (v.writes (Elt Ideal) f L) (ix3 h d q) = if h.val < j then new h d q else old h d q)
    (h : Fin 16) (d : Fin 80) (q : Fin 256) :
    v.read (Elt Ideal) (v.writes (Elt Ideal) f (⟨Rect.unit (s := S16x80x256) ![j, 0, 0] S1x80x256.size inb, w⟩ :: L)) (ix3 h d q)
      = if h.val < j + 1 then new h d q else old h d q := by
  by_cases e : h.val = j
  · obtain rfl : h = ⟨j, hj⟩ := Fin.ext e
    rw [if_pos (Nat.lt_succ_self _), ← hw]
    refine View.read_writes_cons_unit_of_mem v f inb w L _ (ix3 0 d q) rfl fun a => ?_
    fin_cases a
    · show j = j + 0; omega
    · show d.val = 0 + d.val; omega
    · show q.val = 0 + q.val; omega
  · refine (View.read_writes_cons_unit_of_not_mem v f inb w L _ rfl 0 ?_).trans ((hL h d q).trans ?_)
    · show h.val < j ∨ j + 1 ≤ h.val
      omega
    · split_ifs <;> first | rfl | omega

theorem k1 (k : ℕ) (hk : k < 8) : (Scalar.indexCast (Scalar.muli (Scf.iv 0#32 1#32 k) 256#32)).toNat = k * 256 := by
  interval_cases k <;> rfl

theorem k2 (k : ℕ) (hk : k < 8) : (Scalar.indexCast (Scf.iv 0#32 1#32 k)).toNat = k := by
  interval_cases k <;> rfl

theorem trips1 (i : grid0.Coords) : (k0_t1_loop i).trips = (i 2).val := by
  unfold k0_t1_loop
  dsimp only
  generalize i 2 = j
  revert j
  decide +kernel

theorem trips2 (i : grid0.Coords) : (k0_t2_loop i).trips = 0 := by
  unfold k0_t2_loop
  dsimp only
  generalize i 2 = j
  revert j
  decide +kernel

end Cert.KernelIdeal.Fox

end
-- ==== Proof.Fox.Loop.lean ====
module

public import proofs.«01_k».proof.Proof.Fox.Tile

@[expose] public section

set_option maxRecDepth 16384

noncomputable section

namespace Cert.KernelIdeal.Fox

open Cert.KernelIdeal Cert.KernelIdeal.Gen Idealize.ShloMosaic Idealize.ShloMosaic.TcCoe Idealize.SL.Sem
open Cert.Fox

/-- What the loop over the key tiles carries: the running maximum of each of the sixteen heads. -/
abbrev Carry : Type := FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32

/-- The running maximum of head `h`. -/
def nth (t : Carry) : Fin 16 → FVec Ideal S1x256 .f32 :=
  ![t.1, t.2.1, t.2.2.1, t.2.2.2.1, t.2.2.2.2.1, t.2.2.2.2.2.1, t.2.2.2.2.2.2.1, t.2.2.2.2.2.2.2.1, t.2.2.2.2.2.2.2.2.1, t.2.2.2.2.2.2.2.2.2.1, t.2.2.2.2.2.2.2.2.2.2.1, t.2.2.2.2.2.2.2.2.2.2.2.1, t.2.2.2.2.2.2.2.2.2.2.2.2.1, t.2.2.2.2.2.2.2.2.2.2.2.2.2.1, t.2.2.2.2.2.2.2.2.2.2.2.2.2.2.1, t.2.2.2.2.2.2.2.2.2.2.2.2.2.2.2]

variable (𝒱 : Variants) (c : Dev nD) (bd : Option 𝒱.V) (i : grid0.Coords) (arg3 : Memref sig .tc .vmem S1x16x1x128x256 .bf16) (harg3 : arg3.IsWhole) (arg4 : Memref sig .tc .vmem S1x16x2048x128 .bf16) (harg4 : arg4.IsWhole) (arg5 : Memref sig .tc .vmem S1x16x8x80x256 .bf16) (harg5 : arg5.IsWhole) (arg6 : Memref sig .tc .vmem S1x256x1024 .bf16) (harg6 : arg6.IsWhole) (arg7 : Memref sig .tc .vmem S16x80x256 .f32) (harg7 : arg7.IsWhole) (arg2 : BitVec 32) (v1 v3 v5 v7 v9 v11 v13 v15 v17 v19 v21 v23 v25 v27 v29 v31 : FVec Ideal S80x256 .bf16)
variable (v32 : FVec Ideal S16x80x256 .f32)

/-- The query tile of head `h`. -/
def qs (h : Fin 16) : FVec Ideal S80x256 .bf16 := (![v1, v3, v5, v7, v9, v11, v13, v15, v17, v19, v21, v23, v25, v27, v29, v31] : Fin 16 → FVec Ideal S80x256 .bf16) h

theorem offK (h n : ℕ) (hn : n < 8) :
    (![0, h, (Scalar.indexCast (Scalar.muli (Scf.iv 0#32 1#32 n) 256#32)).toNat, 0] : Fin 4 → ℕ) = ![0, h, n * 256, 0] := by
  rw [k1 n hn]

theorem offV (h n : ℕ) (hn : n < 8) :
    (![0, h, (Scalar.indexCast (Scf.iv 0#32 1#32 n)).toNat, 0, 0] : Fin 5 → ℕ) = ![0, h, n, 0, 0] := by
  rw [k2 n hn]

variable (X4 : BufTy.Contents (Elt Ideal) arg4.view.ty) (X5 : BufTy.Contents (Elt Ideal) arg5.view.ty)
  (k : Fin (k0_t1_loop i).trips) (acc' : Carry) (f : BufTy.Contents (Elt Ideal) arg7.view.ty)

theorem inbK (h n : ℕ) (hh : h < 16) (hn : n < 8) (y : Fin 4) :
    (![0, h, (Scalar.indexCast (Scalar.muli (Scf.iv 0#32 1#32 n) 256#32)).toNat, 0] : Fin 4 → ℕ) y + S1x1x256x80.size y ≤ S1x16x2048x128.size y := by
  rw [offK h n hn]
  fin_cases y <;> simp <;> omega

theorem inbV (h n : ℕ) (hh : h < 16) (hn : n < 8) (y : Fin 5) :
    (![0, h, (Scalar.indexCast (Scf.iv 0#32 1#32 n)).toNat, 0, 0] : Fin 5 → ℕ) y + S1x1x1x80x256.size y ≤ S1x16x8x80x256.size y := by
  rw [offV h n hn]
  fin_cases y <;> simp <;> omega

theorem inbA (h : ℕ) (hh : h < 16) (y : Fin 3) : (![h, 0, 0] : Fin 3 → ℕ) y + S1x80x256.size y ≤ S16x80x256.size y := by
  fin_cases y <;> simp <;> omega

/-- The loop's load of a tile of keys of head `h`. -/
def keys (n : ℕ) (hn : n < 8) (h : Fin 16) : FVec Ideal S1x1x256x80 .bf16 :=
  View.readAt (Elt Ideal) arg4.view (Rect.unit (s := S1x16x2048x128) _ S1x1x256x80.size (inbK h.val n h.isLt hn)).toLoadRect X4

/-- The loop's load of a tile of values of head `h`. -/
def vals (n : ℕ) (hn : n < 8) (h : Fin 16) : FVec Ideal S1x1x1x80x256 .bf16 :=
  View.readAt (Elt Ideal) arg5.view (Rect.unit (s := S1x16x8x80x256) _ S1x1x1x80x256.size (inbV h.val n h.isLt hn)).toLoadRect X5

/-- The loop's load of the products of head `h`. -/
def prods (h : Fin 16) : FVec Ideal S1x80x256 .f32 :=
  View.readAt (Elt Ideal) arg7.view (Rect.unit (s := S16x80x256) _ S1x80x256.size (inbA h.val h.isLt)).toLoadRect f

/-- What one tile leaves in head `h`'s running maximum. -/
theorem tripR_at (hk : k.val < 8) (h : Fin 16) :
    nth (tripR_k0_t1 (F := Ideal) 𝒱 c bd i arg3 harg3 arg4 harg4 arg5 harg5 arg6 harg6 arg7 harg7 arg2 v1 v3 v5 v7 v9 v11 v13 v15 v17 v19 v21 v23 v25 v27 v29 v31 v32 X4 X5 k acc' f) h
      = top (nth acc' h) (scores (qs v1 v3 v5 v7 v9 v11 v13 v15 v17 v19 v21 v23 v25 v27 v29 v31 h) (keys arg4 X4 k.val hk h)) := by
  unfold tripR_k0_t1 trip_k0_t1
  dsimp only
  sl_unfold_words
  fin_cases h
  · show _ = top acc'.1 (scores v1 (keys arg4 X4 k.val hk 0))
    rfl
  · show _ = top acc'.2.1 (scores v3 (keys arg4 X4 k.val hk 1))
    rfl
  · show _ = top acc'.2.2.1 (scores v5 (keys arg4 X4 k.val hk 2))
    rfl
  · show _ = top acc'.2.2.2.1 (scores v7 (keys arg4 X4 k.val hk 3))
    rfl
  · show _ = top acc'.2.2.2.2.1 (scores v9 (keys arg4 X4 k.val hk 4))
    rfl
  · show _ = top acc'.2.2.2.2.2.1 (scores v11 (keys arg4 X4 k.val hk 5))
    rfl
  · show _ = top acc'.2.2.2.2.2.2.1 (scores v13 (keys arg4 X4 k.val hk 6))
    rfl
  · show _ = top acc'.2.2.2.2.2.2.2.1 (scores v15 (keys arg4 X4 k.val hk 7))
    rfl
  · show _ = top acc'.2.2.2.2.2.2.2.2.1 (scores v17 (keys arg4 X4 k.val hk 8))
    rfl
  · show _ = top acc'.2.2.2.2.2.2.2.2.2.1 (scores v19 (keys arg4 X4 k.val hk 9))
    rfl
  · show _ = top acc'.2.2.2.2.2.2.2.2.2.2.1 (scores v21 (keys arg4 X4 k.val hk 10))
    rfl
  · show _ = top acc'.2.2.2.2.2.2.2.2.2.2.2.1 (scores v23 (keys arg4 X4 k.val hk 11))
    rfl
  · show _ = top acc'.2.2.2.2.2.2.2.2.2.2.2.2.1 (scores v25 (keys arg4 X4 k.val hk 12))
    rfl
  · show _ = top acc'.2.2.2.2.2.2.2.2.2.2.2.2.2.1 (scores v27 (keys arg4 X4 k.val hk 13))
    rfl
  · show _ = top acc'.2.2.2.2.2.2.2.2.2.2.2.2.2.2.1 (scores v29 (keys arg4 X4 k.val hk 14))
    rfl
  · show _ = top acc'.2.2.2.2.2.2.2.2.2.2.2.2.2.2.2 (scores v31 (keys arg4 X4 k.val hk 15))
    rfl

end Cert.KernelIdeal.Fox

end
-- ==== Proof.Fox.Store.lean ====
module

public import proofs.«01_k».proof.Proof.Fox.Loop

@[expose] public section

set_option maxRecDepth 16384

noncomputable section

namespace Cert.KernelIdeal.Fox

open Cert.KernelIdeal Cert.KernelIdeal.Gen Idealize.ShloMosaic Idealize.ShloMosaic.TcCoe Idealize.SL.Sem
open Cert.Fox

variable (𝒱 : Variants) (c : Dev nD) (bd : Option 𝒱.V) (i : grid0.Coords) (arg3 : Memref sig .tc .vmem S1x16x1x128x256 .bf16) (harg3 : arg3.IsWhole) (arg4 : Memref sig .tc .vmem S1x16x2048x128 .bf16) (harg4 : arg4.IsWhole) (arg5 : Memref sig .tc .vmem S1x16x8x80x256 .bf16) (harg5 : arg5.IsWhole) (arg6 : Memref sig .tc .vmem S1x256x1024 .bf16) (harg6 : arg6.IsWhole) (arg7 : Memref sig .tc .vmem S16x80x256 .f32) (harg7 : arg7.IsWhole) (arg2 : BitVec 32) (v1 v3 v5 v7 v9 v11 v13 v15 v17 v19 v21 v23 v25 v27 v29 v31 : FVec Ideal S80x256 .bf16)
variable (v32 : FVec Ideal S16x80x256 .f32)

variable (X4 : BufTy.Contents (Elt Ideal) arg4.view.ty) (X5 : BufTy.Contents (Elt Ideal) arg5.view.ty)
  (k : Fin (k0_t1_loop i).trips) (acc' : Carry) (f : BufTy.Contents (Elt Ideal) arg7.view.ty)

/-- One head's part of a store of products. -/
def piece (h : ℕ) (hh : h < 16) (w : FVec Ideal S1x80x256 .f32) : View.Piece (Elt Ideal) S16x80x256 .f32 :=
  ⟨Rect.unit (s := S16x80x256) ![h, 0, 0] S1x80x256.size (inbA h hh), w⟩

/-- The stores of one tile, the last head first. -/
theorem tripL_eq (hk : k.val < 8) :
    tripL_k0_t1 (F := Ideal) 𝒱 c bd i arg3 harg3 arg4 harg4 arg5 harg5 arg6 harg6 arg7 harg7 arg2 v1 v3 v5 v7 v9 v11 v13 v15 v17 v19 v21 v23 v25 v27 v29 v31 v32 X4 X5 k acc' f
      = [piece 15 (by decide) (acc acc'.2.2.2.2.2.2.2.2.2.2.2.2.2.2.2 (scores v31 (keys arg4 X4 k.val hk 15)) (prods arg7 f 15) (vals arg5 X5 k.val hk 15)),
        piece 14 (by decide) (acc acc'.2.2.2.2.2.2.2.2.2.2.2.2.2.2.1 (scores v29 (keys arg4 X4 k.val hk 14)) (prods arg7 f 14) (vals arg5 X5 k.val hk 14)),
        piece 13 (by decide) (acc acc'.2.2.2.2.2.2.2.2.2.2.2.2.2.1 (scores v27 (keys arg4 X4 k.val hk 13)) (prods arg7 f 13) (vals arg5 X5 k.val hk 13)),
        piece 12 (by decide) (acc acc'.2.2.2.2.2.2.2.2.2.2.2.2.1 (scores v25 (keys arg4 X4 k.val hk 12)) (prods arg7 f 12) (vals arg5 X5 k.val hk 12)),
        piece 11 (by decide) (acc acc'.2.2.2.2.2.2.2.2.2.2.2.1 (scores v23 (keys arg4 X4 k.val hk 11)) (prods arg7 f 11) (vals arg5 X5 k.val hk 11)),
        piece 10 (by decide) (acc acc'.2.2.2.2.2.2.2.2.2.2.1 (scores v21 (keys arg4 X4 k.val hk 10)) (prods arg7 f 10) (vals arg5 X5 k.val hk 10)),
        piece 9 (by decide) (acc acc'.2.2.2.2.2.2.2.2.2.1 (scores v19 (keys arg4 X4 k.val hk 9)) (prods arg7 f 9) (vals arg5 X5 k.val hk 9)),
        piece 8 (by decide) (acc acc'.2.2.2.2.2.2.2.2.1 (scores v17 (keys arg4 X4 k.val hk 8)) (prods arg7 f 8) (vals arg5 X5 k.val hk 8)),
        piece 7 (by decide) (acc acc'.2.2.2.2.2.2.2.1 (scores v15 (keys arg4 X4 k.val hk 7)) (prods arg7 f 7) (vals arg5 X5 k.val hk 7)),
        piece 6 (by decide) (acc acc'.2.2.2.2.2.2.1 (scores v13 (keys arg4 X4 k.val hk 6)) (prods arg7 f 6) (vals arg5 X5 k.val hk 6)),
        piece 5 (by decide) (acc acc'.2.2.2.2.2.1 (scores v11 (keys arg4 X4 k.val hk 5)) (prods arg7 f 5) (vals arg5 X5 k.val hk 5)),
        piece 4 (by decide) (acc acc'.2.2.2.2.1 (scores v9 (keys arg4 X4 k.val hk 4)) (prods arg7 f 4) (vals arg5 X5 k.val hk 4)),
        piece 3 (by decide) (acc acc'.2.2.2.1 (scores v7 (keys arg4 X4 k.val hk 3)) (prods arg7 f 3) (vals arg5 X5 k.val hk 3)),
        piece 2 (by decide) (acc acc'.2.2.1 (scores v5 (keys arg4 X4 k.val hk 2)) (prods arg7 f 2) (vals arg5 X5 k.val hk 2)),
        piece 1 (by decide) (acc acc'.2.1 (scores v3 (keys arg4 X4 k.val hk 1)) (prods arg7 f 1) (vals arg5 X5 k.val hk 1)),
        piece 0 (by decide) (acc acc'.1 (scores v1 (keys arg4 X4 k.val hk 0)) (prods arg7 f 0) (vals arg5 X5 k.val hk 0))] := by
  unfold tripL_k0_t1 trip_k0_t1
  dsimp only
  sl_unfold_words
  refine congrArg₂ List.cons (congrArg (piece 15 (by decide)) (rfl : _ = _)) ?_
  refine congrArg₂ List.cons (congrArg (piece 14 (by decide)) (rfl : _ = _)) ?_
  refine congrArg₂ List.cons (congrArg (piece 13 (by decide)) (rfl : _ = _)) ?_
  refine congrArg₂ List.cons (congrArg (piece 12 (by decide)) (rfl : _ = _)) ?_
  refine congrArg₂ List.cons (congrArg (piece 11 (by decide)) (rfl : _ = _)) ?_
  refine congrArg₂ List.cons (congrArg (piece 10 (by decide)) (rfl : _ = _)) ?_
  refine congrArg₂ List.cons (congrArg (piece 9 (by decide)) (rfl : _ = _)) ?_
  refine congrArg₂ List.cons (congrArg (piece 8 (by decide)) (rfl : _ = _)) ?_
  refine congrArg₂ List.cons (congrArg (piece 7 (by decide)) (rfl : _ = _)) ?_
  refine congrArg₂ List.cons (congrArg (piece 6 (by decide)) (rfl : _ = _)) ?_
  refine congrArg₂ List.cons (congrArg (piece 5 (by decide)) (rfl : _ = _)) ?_
  refine congrArg₂ List.cons (congrArg (piece 4 (by decide)) (rfl : _ = _)) ?_
  refine congrArg₂ List.cons (congrArg (piece 3 (by decide)) (rfl : _ = _)) ?_
  refine congrArg₂ List.cons (congrArg (piece 2 (by decide)) (rfl : _ = _)) ?_
  refine congrArg₂ List.cons (congrArg (piece 1 (by decide)) (rfl : _ = _)) ?_
  refine congrArg₂ List.cons (congrArg (piece 0 (by decide)) (rfl : _ = _)) ?_
  rfl

end Cert.KernelIdeal.Fox

end
-- ==== Proof.Fox.Walk.lean ====
module

public import proofs.«01_k».proof.Proof.Fox.Store

@[expose] public section

set_option maxRecDepth 16384

noncomputable section

namespace Cert.KernelIdeal.Fox

open Cert.KernelIdeal Cert.KernelIdeal.Gen Idealize.ShloMosaic Idealize.ShloMosaic.TcCoe Idealize.SL.Sem
open Cert.Fox

variable (𝒱 : Variants) (c : Dev nD) (bd : Option 𝒱.V) (i : grid0.Coords) (arg3 : Memref sig .tc .vmem S1x16x1x128x256 .bf16) (harg3 : arg3.IsWhole) (arg4 : Memref sig .tc .vmem S1x16x2048x128 .bf16) (harg4 : arg4.IsWhole) (arg5 : Memref sig .tc .vmem S1x16x8x80x256 .bf16) (harg5 : arg5.IsWhole) (arg6 : Memref sig .tc .vmem S1x256x1024 .bf16) (harg6 : arg6.IsWhole) (arg7 : Memref sig .tc .vmem S16x80x256 .f32) (harg7 : arg7.IsWhole) (arg2 : BitVec 32) (v1 v3 v5 v7 v9 v11 v13 v15 v17 v19 v21 v23 v25 v27 v29 v31 : FVec Ideal S80x256 .bf16)
variable (v32 : FVec Ideal S16x80x256 .f32)

variable (x3 : FVec Ideal S1x16x1x128x256 .bf16) (x4 : FVec Ideal S1x16x2048x128 .bf16) (x5 : FVec Ideal S1x16x8x80x256 .bf16)

/-- The product of a query column with a key row, over the eighty entries the two share. -/
def dots (h : Fin 16) (q : Fin 256) (j : ℕ) (κ : Fin 256) : EReal :=
  ∑ d : Fin 80, x4 (ix4 0 h ⟨(j * 256 + κ.val) % 2048, by omega⟩ ⟨d.val, by omega⟩) * x3 (ix5 0 h 0 ⟨d.val, by omega⟩ q)

/-- A row of values. -/
def rows (h : Fin 16) (d : Fin 80) (j : ℕ) (κ : Fin 256) : EReal := x5 (ix5 0 h ⟨j % 8, by omega⟩ d κ)

theorem keys_at (n : ℕ) (hn : n < 8) (h : Fin 16) (κ : Fin 256) (d : Fin 80) : keys arg4 (harg4.unread x4) n hn h (ix4 0 0 κ d)
    = x4 (ix4 0 h ⟨(n * 256 + κ.val) % 2048, by omega⟩ ⟨d.val, by omega⟩) :=
  key_tile harg4 x4 _ h n hn (offK h.val n hn) κ d

theorem vals_at (n : ℕ) (hn : n < 8) (h : Fin 16) (d : Fin 80) (κ : Fin 256) : vals arg5 (harg5.unread x5) n hn h (ix5 0 0 0 d κ)
    = rows x5 h d n κ :=
  val_tile harg5 x5 _ h n hn (offV h.val n hn) d κ

variable (S : Fin 16 → Fin 256 → ℕ → Fin 256 → EReal)
  (hQ : ∀ (h : Fin 16) (d : Fin 80) (q : Fin 256), qs v1 v3 v5 v7 v9 v11 v13 v15 v17 v19 v21 v23 v25 v27 v29 v31 h (ix2 d q) = x3 (ix5 0 h 0 ⟨d.val, by omega⟩ q))

include hQ in
theorem tile_at (n : ℕ) (hn : n < 8) (h : Fin 16) (κ q : Fin 256) :
    scores (qs v1 v3 v5 v7 v9 v11 v13 v15 v17 v19 v21 v23 v25 v27 v29 v31 h) (keys arg4 (harg4.unread x4) n hn h) (ix2 κ q) = LG * dots x3 x4 h q n κ := by
  rw [scores_at]
  exact congrArg (LG * ·) (Finset.sum_congr rfl fun d _ => by rw [keys_at, hQ])

variable (k : Fin (k0_t1_loop i).trips) (acc' : Carry) (f X7 : BufTy.Contents (Elt Ideal) arg7.view.ty)

include hQ in
/-- One trip of the loop, its running maxima. -/
theorem trip_top (X5 : BufTy.Contents (Elt Ideal) arg5.view.ty) (hk : k.val < 8) (hS : ∀ h q κ, S h q k.val κ = LG * dots x3 x4 h q k.val κ)
    (hm : ∀ h q, nth acc' h (ix2 0 q) = peak (S h q) k.val) (h : Fin 16) (q : Fin 256) :
    nth (tripR_k0_t1 (F := Ideal) 𝒱 c bd i arg3 harg3 arg4 harg4 arg5 harg5 arg6 harg6 arg7 harg7 arg2 v1 v3 v5 v7 v9 v11 v13 v15 v17 v19 v21 v23 v25 v27 v29 v31 v32 (harg4.unread x4) X5 k acc' f) h (ix2 0 q) = peak (S h q) (k.val + 1) := by
  rw [tripR_at (hk := hk)]
  exact top_step _ _ _ _ _ (hm h q) fun κ => (tile_at arg4 harg4 (hQ := hQ) (hn := hk) ..).trans (hS h q κ).symm

include hQ in
/-- One trip of the loop, its products. -/
theorem trip_acc (hk : k.val < 8) (hS : ∀ h q κ, S h q k.val κ = LG * dots x3 x4 h q k.val κ)
    (hm : ∀ h q, nth acc' h (ix2 0 q) = peak (S h q) k.val) (L : List (View.Piece (Elt Ideal) S16x80x256 .f32))
    (ha : ∀ h d q, arg7.view.read (Elt Ideal) (arg7.view.writes (Elt Ideal) X7 L) (ix3 h d q) = part (S h q) (rows x5 h d) k.val)
    (h : Fin 16) (d : Fin 80) (q : Fin 256) :
    arg7.view.read (Elt Ideal) (arg7.view.writes (Elt Ideal) X7 (tripL_k0_t1 (F := Ideal) 𝒱 c bd i arg3 harg3 arg4 harg4 arg5 harg5 arg6 harg6 arg7 harg7 arg2 v1 v3 v5 v7 v9 v11 v13 v15 v17 v19 v21 v23 v25 v27 v29 v31 v32 (harg4.unread x4) (harg5.unread x5) k acc'
        (arg7.view.writes (Elt Ideal) X7 L) ++ L)) (ix3 h d q)
      = part (S h q) (rows x5 h d) (k.val + 1) := by
  have hw : ∀ (h : Fin 16) (d : Fin 80) (q : Fin 256), acc (nth acc' h) (scores (qs v1 v3 v5 v7 v9 v11 v13 v15 v17 v19 v21 v23 v25 v27 v29 v31 h) (keys arg4 (harg4.unread x4) k.val hk h))
      (prods arg7 (arg7.view.writes (Elt Ideal) X7 L) h) (vals arg5 (harg5.unread x5) k.val hk h) (ix3 0 d q) = part (S h q) (rows x5 h d) (k.val + 1) :=
    fun h d q => tile_step _ _ _ _ _ _ _ _ _ (hm h q) (fun κ => (tile_at arg4 harg4 (hQ := hQ) (hn := hk) ..).trans (hS h q κ).symm)
      ((acc_tile arg7 _ _ h rfl d q).trans (ha h d q)) (fun κ => vals_at arg5 harg5 x5 _ hk h d κ)
  rw [tripL_eq (hk := hk)]
  refine (?_ : _ = if h.val < 15 + 1 then part (S h q) (rows x5 h d) (k.val + 1) else part (S h q) (rows x5 h d) k.val).trans (if_pos h.isLt)
  revert h d q
  refine piece_step arg7.view X7 _ _ (fun h d q => part (S h q) (rows x5 h d) (k.val + 1)) 15 (by decide) (inbA 15 (by decide)) _ (hw 15) ?_
  refine piece_step arg7.view X7 _ _ (fun h d q => part (S h q) (rows x5 h d) (k.val + 1)) 14 (by decide) (inbA 14 (by decide)) _ (hw 14) ?_
  refine piece_step arg7.view X7 _ _ (fun h d q => part (S h q) (rows x5 h d) (k.val + 1)) 13 (by decide) (inbA 13 (by decide)) _ (hw 13) ?_
  refine piece_step arg7.view X7 _ _ (fun h d q => part (S h q) (rows x5 h d) (k.val + 1)) 12 (by decide) (inbA 12 (by decide)) _ (hw 12) ?_
  refine piece_step arg7.view X7 _ _ (fun h d q => part (S h q) (rows x5 h d) (k.val + 1)) 11 (by decide) (inbA 11 (by decide)) _ (hw 11) ?_
  refine piece_step arg7.view X7 _ _ (fun h d q => part (S h q) (rows x5 h d) (k.val + 1)) 10 (by decide) (inbA 10 (by decide)) _ (hw 10) ?_
  refine piece_step arg7.view X7 _ _ (fun h d q => part (S h q) (rows x5 h d) (k.val + 1)) 9 (by decide) (inbA 9 (by decide)) _ (hw 9) ?_
  refine piece_step arg7.view X7 _ _ (fun h d q => part (S h q) (rows x5 h d) (k.val + 1)) 8 (by decide) (inbA 8 (by decide)) _ (hw 8) ?_
  refine piece_step arg7.view X7 _ _ (fun h d q => part (S h q) (rows x5 h d) (k.val + 1)) 7 (by decide) (inbA 7 (by decide)) _ (hw 7) ?_
  refine piece_step arg7.view X7 _ _ (fun h d q => part (S h q) (rows x5 h d) (k.val + 1)) 6 (by decide) (inbA 6 (by decide)) _ (hw 6) ?_
  refine piece_step arg7.view X7 _ _ (fun h d q => part (S h q) (rows x5 h d) (k.val + 1)) 5 (by decide) (inbA 5 (by decide)) _ (hw 5) ?_
  refine piece_step arg7.view X7 _ _ (fun h d q => part (S h q) (rows x5 h d) (k.val + 1)) 4 (by decide) (inbA 4 (by decide)) _ (hw 4) ?_
  refine piece_step arg7.view X7 _ _ (fun h d q => part (S h q) (rows x5 h d) (k.val + 1)) 3 (by decide) (inbA 3 (by decide)) _ (hw 3) ?_
  refine piece_step arg7.view X7 _ _ (fun h d q => part (S h q) (rows x5 h d) (k.val + 1)) 2 (by decide) (inbA 2 (by decide)) _ (hw 2) ?_
  refine piece_step arg7.view X7 _ _ (fun h d q => part (S h q) (rows x5 h d) (k.val + 1)) 1 (by decide) (inbA 1 (by decide)) _ (hw 1) ?_
  refine piece_step arg7.view X7 _ _ (fun h d q => part (S h q) (rows x5 h d) (k.val + 1)) 0 (by decide) (inbA 0 (by decide)) _ (hw 0) ?_
  exact ha

include hQ in
/-- The state of the loop before trip `n`. -/
theorem walk (init : Carry) (h0 : ∀ h q, nth init h (ix2 0 q) = ⊥)
    (ha : ∀ h d q, arg7.view.read (Elt Ideal) X7 (ix3 h d q) = 0)
    (hS : ∀ h q j, j < (i 2).val → ∀ κ, S h q j κ = LG * dots x3 x4 h q j κ) (n : ℕ) (hn : n ≤ (i 2).val) :
    (∀ h q, nth (st_k0_t1 (F := Ideal) 𝒱 c bd i arg3 harg3 arg4 harg4 arg5 harg5 arg6 harg6 arg7 harg7 arg2 v1 v3 v5 v7 v9 v11 v13 v15 v17 v19 v21 v23 v25 v27 v29 v31 v32 (harg4.unread x4) (harg5.unread x5) X7 init n).1 h (ix2 0 q) = peak (S h q) n)
    ∧ ∀ h d q, arg7.view.read (Elt Ideal) (arg7.view.writes (Elt Ideal) X7
        (st_k0_t1 (F := Ideal) 𝒱 c bd i arg3 harg3 arg4 harg4 arg5 harg5 arg6 harg6 arg7 harg7 arg2 v1 v3 v5 v7 v9 v11 v13 v15 v17 v19 v21 v23 v25 v27 v29 v31 v32 (harg4.unread x4) (harg5.unread x5) X7 init n).2) (ix3 h d q) = part (S h q) (rows x5 h d) n := by
  induction n with
  | zero => exact ⟨h0, fun h d q => (ha h d q).trans (part_zero _ _).symm⟩
  | succ n ih =>
    obtain ⟨im, ia⟩ := ih (by omega)
    have h8 : (i 2).val < 8 := (i 2).isLt
    have e := st_k0_t1_succ (F := Ideal) 𝒱 c bd i arg3 harg3 arg4 harg4 arg5 harg5 arg6 harg6 arg7 harg7 arg2 v1 v3 v5 v7 v9 v11 v13 v15 v17 v19 v21 v23 v25 v27 v29 v31 v32 (harg4.unread x4) (harg5.unread x5) X7 init ⟨n, by rw [trips1]; omega⟩
    have hk : n < (k0_t1_loop i).trips := by rw [trips1]; omega
    have h' : n < 8 := by omega
    refine ⟨fun h q => ?_, fun h d q => ?_⟩
    · refine (congrFun (congrArg (fun t => nth t.1 h) e) _).trans ?_
      exact trip_top (hQ := hQ) (k := ⟨n, hk⟩) (hk := h') (hS := fun h q κ => hS h q n (by omega) κ) (hm := im) (h := h) (q := q) ..
    · refine (congrFun (congrArg (fun t => arg7.view.read (Elt Ideal) (arg7.view.writes (Elt Ideal) X7 t.2)) e) _).trans ?_
      exact trip_acc (hQ := hQ) (k := ⟨n, hk⟩) (hk := h') (hS := fun h q κ => hS h q n (by omega) κ) (hm := im) (ha := ia) (h := h) (d := d) (q := q) ..

end Cert.KernelIdeal.Fox

end
-- ==== Proof.Fox.Diag.lean ====
module

public import proofs.«01_k».proof.Proof.Fox.Walk
public import proofs.«01_k».proof.Proof.Gen.KernelIdeal.Value

@[expose] public section

set_option maxRecDepth 16384

noncomputable section

namespace Cert.KernelIdeal.Fox

open Cert.KernelIdeal Cert.KernelIdeal.Gen Idealize.ShloMosaic Idealize.ShloMosaic.TcCoe Idealize.SL.Sem
open Cert.Fox Cert.KernelIdeal.Gen.kernelRun0_A

variable (c : Dev nD) (i : grid0.Coords) (arg3 : Memref sig .tc .vmem S1x16x1x128x256 .bf16) (harg3 : arg3.IsWhole) (arg4 : Memref sig .tc .vmem S1x16x2048x128 .bf16) (harg4 : arg4.IsWhole) (arg5 : Memref sig .tc .vmem S1x16x8x80x256 .bf16) (harg5 : arg5.IsWhole) (arg6 : Memref sig .tc .vmem S1x256x1024 .bf16) (harg6 : arg6.IsWhole) (arg7 : Memref sig .tc .vmem S16x80x256 .f32) (harg7 : arg7.IsWhole)
variable (x0 : FVec Ideal S1x16x1x128x256 .bf16) (x1 : FVec Ideal S1x16x2048x128 .bf16) (x2 : FVec Ideal S1x16x8x80x256 .bf16)

/-- The query tiles of one grid point. -/
def queries (h : Fin 16) : FVec Ideal S80x256 .bf16 := qs (sl.v1 (F := Ideal) c arg3 harg3 x0) (sl.v3 (F := Ideal) c arg3 harg3 x0) (sl.v5 (F := Ideal) c arg3 harg3 x0) (sl.v7 (F := Ideal) c arg3 harg3 x0) (sl.v9 (F := Ideal) c arg3 harg3 x0) (sl.v11 (F := Ideal) c arg3 harg3 x0) (sl.v13 (F := Ideal) c arg3 harg3 x0) (sl.v15 (F := Ideal) c arg3 harg3 x0) (sl.v17 (F := Ideal) c arg3 harg3 x0) (sl.v19 (F := Ideal) c arg3 harg3 x0) (sl.v21 (F := Ideal) c arg3 harg3 x0) (sl.v23 (F := Ideal) c arg3 harg3 x0) (sl.v25 (F := Ideal) c arg3 harg3 x0) (sl.v27 (F := Ideal) c arg3 harg3 x0) (sl.v29 (F := Ideal) c arg3 harg3 x0) (sl.v31 (F := Ideal) c arg3 harg3 x0) h

/-- The state after the loop over the tiles left of the diagonal. -/
def one : Carry × List (View.Piece (Elt Ideal) S16x80x256 .f32) :=
  st_k0_t1 (F := Ideal) Variants.none c none i arg3 harg3 arg4 harg4 arg5 harg5 arg6 harg6 arg7 harg7 (BitVec.ofNat 32 (i 2).val) (sl.v1 (F := Ideal) c arg3 harg3 x0) (sl.v3 (F := Ideal) c arg3 harg3 x0) (sl.v5 (F := Ideal) c arg3 harg3 x0) (sl.v7 (F := Ideal) c arg3 harg3 x0) (sl.v9 (F := Ideal) c arg3 harg3 x0) (sl.v11 (F := Ideal) c arg3 harg3 x0) (sl.v13 (F := Ideal) c arg3 harg3 x0) (sl.v15 (F := Ideal) c arg3 harg3 x0) (sl.v17 (F := Ideal) c arg3 harg3 x0) (sl.v19 (F := Ideal) c arg3 harg3 x0) (sl.v21 (F := Ideal) c arg3 harg3 x0) (sl.v23 (F := Ideal) c arg3 harg3 x0) (sl.v25 (F := Ideal) c arg3 harg3 x0) (sl.v27 (F := Ideal) c arg3 harg3 x0) (sl.v29 (F := Ideal) c arg3 harg3 x0) (sl.v31 (F := Ideal) c arg3 harg3 x0) sl.v32 (harg4.unread x1) (harg5.unread x2)
    (arg7.view.writes (Elt Ideal) arg7.view.junk sl.HS0_1)
    (k0_pay195, k0_pay196, k0_pay197, k0_pay198, k0_pay199, k0_pay200, k0_pay201, k0_pay202, k0_pay203, k0_pay204, k0_pay205, k0_pay206, k0_pay207, k0_pay208, k0_pay209, k0_pay210)
    (Scf.trips (k0_t1_loop i).lb (k0_t1_loop i).ub (k0_t1_loop i).st)

/-- The state after what is left of that loop, no trip at all. -/
def two : Carry × List (View.Piece (Elt Ideal) S16x80x256 .f32) :=
  st_k0_t2 (F := Ideal) Variants.none c none i arg3 harg3 arg4 harg4 arg5 harg5 arg6 harg6 arg7 harg7 (BitVec.ofNat 32 (i 2).val) (sl.v1 (F := Ideal) c arg3 harg3 x0) (sl.v3 (F := Ideal) c arg3 harg3 x0) (sl.v5 (F := Ideal) c arg3 harg3 x0) (sl.v7 (F := Ideal) c arg3 harg3 x0) (sl.v9 (F := Ideal) c arg3 harg3 x0) (sl.v11 (F := Ideal) c arg3 harg3 x0) (sl.v13 (F := Ideal) c arg3 harg3 x0) (sl.v15 (F := Ideal) c arg3 harg3 x0) (sl.v17 (F := Ideal) c arg3 harg3 x0) (sl.v19 (F := Ideal) c arg3 harg3 x0) (sl.v21 (F := Ideal) c arg3 harg3 x0) (sl.v23 (F := Ideal) c arg3 harg3 x0) (sl.v25 (F := Ideal) c arg3 harg3 x0) (sl.v27 (F := Ideal) c arg3 harg3 x0) (sl.v29 (F := Ideal) c arg3 harg3 x0) (sl.v31 (F := Ideal) c arg3 harg3 x0) sl.v32 (sl.v59 i) (harg4.unread x1) (harg5.unread x2)
    (arg7.view.writes (Elt Ideal) arg7.view.junk ((one c i arg3 harg3 arg4 harg4 arg5 harg5 arg6 harg6 arg7 harg7 x0 x1 x2).2 ++ sl.HS0_1))
    ((one c i arg3 harg3 arg4 harg4 arg5 harg5 arg6 harg6 arg7 harg7 x0 x1 x2).1.1, (one c i arg3 harg3 arg4 harg4 arg5 harg5 arg6 harg6 arg7 harg7 x0 x1 x2).1.2.1, (one c i arg3 harg3 arg4 harg4 arg5 harg5 arg6 harg6 arg7 harg7 x0 x1 x2).1.2.2.1, (one c i arg3 harg3 arg4 harg4 arg5 harg5 arg6 harg6 arg7 harg7 x0 x1 x2).1.2.2.2.1, (one c i arg3 harg3 arg4 harg4 arg5 harg5 arg6 harg6 arg7 harg7 x0 x1 x2).1.2.2.2.2.1, (one c i arg3 harg3 arg4 harg4 arg5 harg5 arg6 harg6 arg7 harg7 x0 x1 x2).1.2.2.2.2.2.1, (one c i arg3 harg3 arg4 harg4 arg5 harg5 arg6 harg6 arg7 harg7 x0 x1 x2).1.2.2.2.2.2.2.1, (one c i arg3 harg3 arg4 harg4 arg5 harg5 arg6 harg6 arg7 harg7 x0 x1 x2).1.2.2.2.2.2.2.2.1, (one c i arg3 harg3 arg4 harg4 arg5 harg5 arg6 harg6 arg7 harg7 x0 x1 x2).1.2.2.2.2.2.2.2.2.1, (one c i arg3 harg3 arg4 harg4 arg5 harg5 arg6 harg6 arg7 harg7 x0 x1 x2).1.2.2.2.2.2.2.2.2.2.1, (one c i arg3 harg3 arg4 harg4 arg5 harg5 arg6 harg6 arg7 harg7 x0 x1 x2).1.2.2.2.2.2.2.2.2.2.2.1, (one c i arg3 harg3 arg4 harg4 arg5 harg5 arg6 harg6 arg7 harg7 x0 x1 x2).1.2.2.2.2.2.2.2.2.2.2.2.1, (one c i arg3 harg3 arg4 harg4 arg5 harg5 arg6 harg6 arg7 harg7 x0 x1 x2).1.2.2.2.2.2.2.2.2.2.2.2.2.1, (one c i arg3 harg3 arg4 harg4 arg5 harg5 arg6 harg6 arg7 harg7 x0 x1 x2).1.2.2.2.2.2.2.2.2.2.2.2.2.2.1, (one c i arg3 harg3 arg4 harg4 arg5 harg5 arg6 harg6 arg7 harg7 x0 x1 x2).1.2.2.2.2.2.2.2.2.2.2.2.2.2.2.1, (one c i arg3 harg3 arg4 harg4 arg5 harg5 arg6 harg6 arg7 harg7 x0 x1 x2).1.2.2.2.2.2.2.2.2.2.2.2.2.2.2.2)
    (Scf.trips (k0_t2_loop i).lb (k0_t2_loop i).ub (k0_t2_loop i).st)

/-- Everything stored in the products before the diagonal tile. -/
def before : List (View.Piece (Elt Ideal) S16x80x256 .f32) := (two c i arg3 harg3 arg4 harg4 arg5 harg5 arg6 harg6 arg7 harg7 x0 x1 x2).2 ++ ((one c i arg3 harg3 arg4 harg4 arg5 harg5 arg6 harg6 arg7 harg7 x0 x1 x2).2 ++ sl.HS0_1)

theorem offKD (h n : ℕ) (hn : n < 8) :
    (![0, h, (Scalar.indexCast (Scalar.muli (BitVec.ofNat 32 n) 256#32)).toNat, 0] : Fin 4 → ℕ) = ![0, h, n * 256, 0] := by
  interval_cases n <;> rfl

theorem offVD (h n : ℕ) (hn : n < 8) :
    (![0, h, (Scalar.indexCast (BitVec.ofNat 32 n)).toNat, 0, 0] : Fin 5 → ℕ) = ![0, h, n, 0, 0] := by
  interval_cases n <;> rfl

theorem inbKD (h n : ℕ) (hh : h < 16) (hn : n < 8) (y : Fin 4) :
    (![0, h, (Scalar.indexCast (Scalar.muli (BitVec.ofNat 32 n) 256#32)).toNat, 0] : Fin 4 → ℕ) y + S1x1x256x80.size y ≤ S1x16x2048x128.size y := by
  rw [offKD h n hn]
  fin_cases y <;> simp <;> omega

theorem inbVD (h n : ℕ) (hh : h < 16) (hn : n < 8) (y : Fin 5) :
    (![0, h, (Scalar.indexCast (BitVec.ofNat 32 n)).toNat, 0, 0] : Fin 5 → ℕ) y + S1x1x1x80x256.size y ≤ S1x16x8x80x256.size y := by
  rw [offVD h n hn]
  fin_cases y <;> simp <;> omega

/-- The load of the diagonal tile of keys of head `h`. -/
def keysD (X4 : BufTy.Contents (Elt Ideal) arg4.view.ty) (h : Fin 16) : FVec Ideal S1x1x256x80 .bf16 :=
  View.readAt (Elt Ideal) arg4.view (Rect.unit (s := S1x16x2048x128) _ S1x1x256x80.size (inbKD h.val (i 2).val h.isLt (i 2).isLt)).toLoadRect X4

/-- The load of the diagonal tile of values of head `h`. -/
def valsD (X5 : BufTy.Contents (Elt Ideal) arg5.view.ty) (h : Fin 16) : FVec Ideal S1x1x1x80x256 .bf16 :=
  View.readAt (Elt Ideal) arg5.view (Rect.unit (s := S1x16x8x80x256) _ S1x1x1x80x256.size (inbVD h.val (i 2).val h.isLt (i 2).isLt)).toLoadRect X5

/-- The diagonal tile's products of head `h`, over the stores `L`. -/
def last (L : List (View.Piece (Elt Ideal) S16x80x256 .f32)) (h : Fin 16) : FVec Ideal S1x80x256 .f32 :=
  acc (nth (two c i arg3 harg3 arg4 harg4 arg5 harg5 arg6 harg6 arg7 harg7 x0 x1 x2).1 h) (scoresD (queries c arg3 harg3 x0 h) (keysD i arg4 (harg4.unread x1) h))
    (arg7.view.readCov L (Rect.unit (s := S16x80x256) _ S1x80x256.size (inbA h.val h.isLt)).toLoadRect) (valsD i arg5 (harg5.unread x2) h)

theorem store0 : sl.HS0_1_1 (F := Ideal) c i arg3 harg3 arg4 harg4 arg5 harg5 arg6 harg6 arg7 harg7 x0 x1 x2
    = piece 0 (by decide) (last c i arg3 harg3 arg4 harg4 arg5 harg5 arg6 harg6 arg7 harg7 x0 x1 x2 (before c i arg3 harg3 arg4 harg4 arg5 harg5 arg6 harg6 arg7 harg7 x0 x1 x2) 0) :: before c i arg3 harg3 arg4 harg4 arg5 harg5 arg6 harg6 arg7 harg7 x0 x1 x2 := by
  rfl

theorem store1 : sl.HS0_2 (F := Ideal) c i arg3 harg3 arg4 harg4 arg5 harg5 arg6 harg6 arg7 harg7 x0 x1 x2
    = piece 1 (by decide) (last c i arg3 harg3 arg4 harg4 arg5 harg5 arg6 harg6 arg7 harg7 x0 x1 x2 (sl.HS0_1_1 (F := Ideal) c i arg3 harg3 arg4 harg4 arg5 harg5 arg6 harg6 arg7 harg7 x0 x1 x2) 1) :: sl.HS0_1_1 (F := Ideal) c i arg3 harg3 arg4 harg4 arg5 harg5 arg6 harg6 arg7 harg7 x0 x1 x2 := by
  rfl

theorem store2 : sl.HS0_3 (F := Ideal) c i arg3 harg3 arg4 harg4 arg5 harg5 arg6 harg6 arg7 harg7 x0 x1 x2
    = piece 2 (by decide) (last c i arg3 harg3 arg4 harg4 arg5 harg5 arg6 harg6 arg7 harg7 x0 x1 x2 (sl.HS0_2 (F := Ideal) c i arg3 harg3 arg4 harg4 arg5 harg5 arg6 harg6 arg7 harg7 x0 x1 x2) 2) :: sl.HS0_2 (F := Ideal) c i arg3 harg3 arg4 harg4 arg5 harg5 arg6 harg6 arg7 harg7 x0 x1 x2 := by
  rfl

theorem store3 : sl.HS0_4 (F := Ideal) c i arg3 harg3 arg4 harg4 arg5 harg5 arg6 harg6 arg7 harg7 x0 x1 x2
    = piece 3 (by decide) (last c i arg3 harg3 arg4 harg4 arg5 harg5 arg6 harg6 arg7 harg7 x0 x1 x2 (sl.HS0_3 (F := Ideal) c i arg3 harg3 arg4 harg4 arg5 harg5 arg6 harg6 arg7 harg7 x0 x1 x2) 3) :: sl.HS0_3 (F := Ideal) c i arg3 harg3 arg4 harg4 arg5 harg5 arg6 harg6 arg7 harg7 x0 x1 x2 := by
  rfl

theorem store4 : sl.HS0_5 (F := Ideal) c i arg3 harg3 arg4 harg4 arg5 harg5 arg6 harg6 arg7 harg7 x0 x1 x2
    = piece 4 (by decide) (last c i arg3 harg3 arg4 harg4 arg5 harg5 arg6 harg6 arg7 harg7 x0 x1 x2 (sl.HS0_4 (F := Ideal) c i arg3 harg3 arg4 harg4 arg5 harg5 arg6 harg6 arg7 harg7 x0 x1 x2) 4) :: sl.HS0_4 (F := Ideal) c i arg3 harg3 arg4 harg4 arg5 harg5 arg6 harg6 arg7 harg7 x0 x1 x2 := by
  rfl

theorem store5 : sl.HS0_6 (F := Ideal) c i arg3 harg3 arg4 harg4 arg5 harg5 arg6 harg6 arg7 harg7 x0 x1 x2
    = piece 5 (by decide) (last c i arg3 harg3 arg4 harg4 arg5 harg5 arg6 harg6 arg7 harg7 x0 x1 x2 (sl.HS0_5 (F := Ideal) c i arg3 harg3 arg4 harg4 arg5 harg5 arg6 harg6 arg7 harg7 x0 x1 x2) 5) :: sl.HS0_5 (F := Ideal) c i arg3 harg3 arg4 harg4 arg5 harg5 arg6 harg6 arg7 harg7 x0 x1 x2 := by
  rfl

theorem store6 : sl.HS0_7 (F := Ideal) c i arg3 harg3 arg4 harg4 arg5 harg5 arg6 harg6 arg7 harg7 x0 x1 x2
    = piece 6 (by decide) (last c i arg3 harg3 arg4 harg4 arg5 harg5 arg6 harg6 arg7 harg7 x0 x1 x2 (sl.HS0_6 (F := Ideal) c i arg3 harg3 arg4 harg4 arg5 harg5 arg6 harg6 arg7 harg7 x0 x1 x2) 6) :: sl.HS0_6 (F := Ideal) c i arg3 harg3 arg4 harg4 arg5 harg5 arg6 harg6 arg7 harg7 x0 x1 x2 := by
  rfl

theorem store7 : sl.HS0_8 (F := Ideal) c i arg3 harg3 arg4 harg4 arg5 harg5 arg6 harg6 arg7 harg7 x0 x1 x2
    = piece 7 (by decide) (last c i arg3 harg3 arg4 harg4 arg5 harg5 arg6 harg6 arg7 harg7 x0 x1 x2 (sl.HS0_7 (F := Ideal) c i arg3 harg3 arg4 harg4 arg5 harg5 arg6 harg6 arg7 harg7 x0 x1 x2) 7) :: sl.HS0_7 (F := Ideal) c i arg3 harg3 arg4 harg4 arg5 harg5 arg6 harg6 arg7 harg7 x0 x1 x2 := by
  rfl

theorem store8 : sl.HS0_9 (F := Ideal) c i arg3 harg3 arg4 harg4 arg5 harg5 arg6 harg6 arg7 harg7 x0 x1 x2
    = piece 8 (by decide) (last c i arg3 harg3 arg4 harg4 arg5 harg5 arg6 harg6 arg7 harg7 x0 x1 x2 (sl.HS0_8 (F := Ideal) c i arg3 harg3 arg4 harg4 arg5 harg5 arg6 harg6 arg7 harg7 x0 x1 x2) 8) :: sl.HS0_8 (F := Ideal) c i arg3 harg3 arg4 harg4 arg5 harg5 arg6 harg6 arg7 harg7 x0 x1 x2 := by
  rfl

theorem store9 : sl.HS0_10 (F := Ideal) c i arg3 harg3 arg4 harg4 arg5 harg5 arg6 harg6 arg7 harg7 x0 x1 x2
    = piece 9 (by decide) (last c i arg3 harg3 arg4 harg4 arg5 harg5 arg6 harg6 arg7 harg7 x0 x1 x2 (sl.HS0_9 (F := Ideal) c i arg3 harg3 arg4 harg4 arg5 harg5 arg6 harg6 arg7 harg7 x0 x1 x2) 9) :: sl.HS0_9 (F := Ideal) c i arg3 harg3 arg4 harg4 arg5 harg5 arg6 harg6 arg7 harg7 x0 x1 x2 := by
  rfl

theorem store10 : sl.HS0_11 (F := Ideal) c i arg3 harg3 arg4 harg4 arg5 harg5 arg6 harg6 arg7 harg7 x0 x1 x2
    = piece 10 (by decide) (last c i arg3 harg3 arg4 harg4 arg5 harg5 arg6 harg6 arg7 harg7 x0 x1 x2 (sl.HS0_10 (F := Ideal) c i arg3 harg3 arg4 harg4 arg5 harg5 arg6 harg6 arg7 harg7 x0 x1 x2) 10) :: sl.HS0_10 (F := Ideal) c i arg3 harg3 arg4 harg4 arg5 harg5 arg6 harg6 arg7 harg7 x0 x1 x2 := by
  rfl

theorem store11 : sl.HS0_12 (F := Ideal) c i arg3 harg3 arg4 harg4 arg5 harg5 arg6 harg6 arg7 harg7 x0 x1 x2
    = piece 11 (by decide) (last c i arg3 harg3 arg4 harg4 arg5 harg5 arg6 harg6 arg7 harg7 x0 x1 x2 (sl.HS0_11 (F := Ideal) c i arg3 harg3 arg4 harg4 arg5 harg5 arg6 harg6 arg7 harg7 x0 x1 x2) 11) :: sl.HS0_11 (F := Ideal) c i arg3 harg3 arg4 harg4 arg5 harg5 arg6 harg6 arg7 harg7 x0 x1 x2 := by
  rfl

theorem store12 : sl.HS0_13 (F := Ideal) c i arg3 harg3 arg4 harg4 arg5 harg5 arg6 harg6 arg7 harg7 x0 x1 x2
    = piece 12 (by decide) (last c i arg3 harg3 arg4 harg4 arg5 harg5 arg6 harg6 arg7 harg7 x0 x1 x2 (sl.HS0_12 (F := Ideal) c i arg3 harg3 arg4 harg4 arg5 harg5 arg6 harg6 arg7 harg7 x0 x1 x2) 12) :: sl.HS0_12 (F := Ideal) c i arg3 harg3 arg4 harg4 arg5 harg5 arg6 harg6 arg7 harg7 x0 x1 x2 := by
  rfl

theorem store13 : sl.HS0_14 (F := Ideal) c i arg3 harg3 arg4 harg4 arg5 harg5 arg6 harg6 arg7 harg7 x0 x1 x2
    = piece 13 (by decide) (last c i arg3 harg3 arg4 harg4 arg5 harg5 arg6 harg6 arg7 harg7 x0 x1 x2 (sl.HS0_13 (F := Ideal) c i arg3 harg3 arg4 harg4 arg5 harg5 arg6 harg6 arg7 harg7 x0 x1 x2) 13) :: sl.HS0_13 (F := Ideal) c i arg3 harg3 arg4 harg4 arg5 harg5 arg6 harg6 arg7 harg7 x0 x1 x2 := by
  rfl

theorem store14 : sl.HS0_15 (F := Ideal) c i arg3 harg3 arg4 harg4 arg5 harg5 arg6 harg6 arg7 harg7 x0 x1 x2
    = piece 14 (by decide) (last c i arg3 harg3 arg4 harg4 arg5 harg5 arg6 harg6 arg7 harg7 x0 x1 x2 (sl.HS0_14 (F := Ideal) c i arg3 harg3 arg4 harg4 arg5 harg5 arg6 harg6 arg7 harg7 x0 x1 x2) 14) :: sl.HS0_14 (F := Ideal) c i arg3 harg3 arg4 harg4 arg5 harg5 arg6 harg6 arg7 harg7 x0 x1 x2 := by
  rfl

theorem store15 : sl.HS0_16 (F := Ideal) c i arg3 harg3 arg4 harg4 arg5 harg5 arg6 harg6 arg7 harg7 x0 x1 x2
    = piece 15 (by decide) (last c i arg3 harg3 arg4 harg4 arg5 harg5 arg6 harg6 arg7 harg7 x0 x1 x2 (sl.HS0_15 (F := Ideal) c i arg3 harg3 arg4 harg4 arg5 harg5 arg6 harg6 arg7 harg7 x0 x1 x2) 15) :: sl.HS0_15 (F := Ideal) c i arg3 harg3 arg4 harg4 arg5 harg5 arg6 harg6 arg7 harg7 x0 x1 x2 := by
  rfl

end Cert.KernelIdeal.Fox

end
-- ==== Proof.Fox.Block.lean ====
module

public import proofs.«01_k».proof.Proof.Fox.Diag

@[expose] public section

set_option maxRecDepth 16384

noncomputable section

namespace Cert.KernelIdeal.Fox

open Cert.KernelIdeal Cert.KernelIdeal.Gen Idealize.ShloMosaic Idealize.ShloMosaic.TcCoe Idealize.SL.Sem
open Cert.Fox Cert.KernelIdeal.Gen.kernelRun0_A

theorem flip_at (C : FVec Ideal S1024x256 .f32) (q : Fin 256) (y : Fin 1024) :
    shapeCast S1x256x1024 (truncf .bf16 (transpose S256x1024 [1, 0] C transposes_S1024x256_p1_0_S256x1024) bitsLt_bf16_f32 : FVec Ideal S256x1024 .bf16)
      shapeCasts_S256x1024_S1x256x1024 (ix3 0 q y) = C (ix2 y q) := by
  pointwise

/-- The heads' quotients side by side. -/
theorem heads_at (a : Fin 16 → FVec Ideal S64x256 .f32) (q : Fin 256) (y : Fin 1024) :
    k0_pay1 (F := Ideal) (a 0) (a 1) (a 2) (a 3) (a 4) (a 5) (a 6) (a 7) (a 8) (a 9) (a 10) (a 11) (a 12) (a 13) (a 14) (a 15) (ix3 0 q y)
      = a ⟨y.val / 64, by omega⟩ (ix2 ⟨y.val % 64, by omega⟩ q) := by
  refine (flip_at _ q y).trans ?_
  exact concatenate_ofFn_apply (t := S1024x256) (s₁ := S64x256) 0 a _ rfl 64 rfl (ix2 y q) ⟨y.val / 64, by omega⟩ rfl
    (ix2 ⟨y.val % 64, by omega⟩ q) rfl (fun b hb => by fin_cases b; exact absurd rfl hb; rfl)

variable (c : Dev nD) (i : grid0.Coords) (arg3 : Memref sig .tc .vmem S1x16x1x128x256 .bf16) (harg3 : arg3.IsWhole) (arg4 : Memref sig .tc .vmem S1x16x2048x128 .bf16) (harg4 : arg4.IsWhole) (arg5 : Memref sig .tc .vmem S1x16x8x80x256 .bf16) (harg5 : arg5.IsWhole) (arg6 : Memref sig .tc .vmem S1x256x1024 .bf16) (harg6 : arg6.IsWhole) (arg7 : Memref sig .tc .vmem S16x80x256 .f32) (harg7 : arg7.IsWhole)
variable (x0 : FVec Ideal S1x16x1x128x256 .bf16) (x1 : FVec Ideal S1x16x2048x128 .bf16) (x2 : FVec Ideal S1x16x8x80x256 .bf16)

theorem inbQ (h : ℕ) (hh : h < 16) (y : Fin 5) : (![0, h, 0, 0, 0] : Fin 5 → ℕ) y + S1x1x1x80x256.size y ≤ S1x16x1x128x256.size y := by
  fin_cases y <;> simp <;> omega

/-- The load of the queries of head `h`. -/
def load (h : Fin 16) : FVec Ideal S1x1x1x80x256 .bf16 :=
  View.readAt (Elt Ideal) arg3.view (Rect.unit (s := S1x16x1x128x256) _ S1x1x1x80x256.size (inbQ h.val h.isLt)).toLoadRect (harg3.unread x0)

theorem queries_eq (h : Fin 16) : queries c arg3 harg3 x0 h = shapeCast S80x256 (load arg3 harg3 x0 h) shapeCasts_S1x1x1x80x256_S80x256 := by
  fin_cases h <;> rfl

theorem queries_at (h : Fin 16) (d : Fin 80) (q : Fin 256) : queries c arg3 harg3 x0 h (ix2 d q) = x0 (ix5 0 h 0 ⟨d.val, by omega⟩ q) := by
  have e : load arg3 harg3 x0 h (ix5 0 0 0 d q) = x0 (ix5 0 h 0 ⟨d.val, by omega⟩ q) := by
    unfold load
    exact query_tile harg3 x0 (inbQ h.val h.isLt) h rfl d q
  exact (congrFun (queries_eq c arg3 harg3 x0 h) (ix2 d q)).trans ((flat_tile _ d q).trans e)

theorem two_eq : two c i arg3 harg3 arg4 harg4 arg5 harg5 arg6 harg6 arg7 harg7 x0 x1 x2 = ((one c i arg3 harg3 arg4 harg4 arg5 harg5 arg6 harg6 arg7 harg7 x0 x1 x2).1, []) := by
  have e : Scf.trips (k0_t2_loop i).lb (k0_t2_loop i).ub (k0_t2_loop i).st = 0 := trips2 i
  unfold two
  rw [e, st_k0_t2.eq_1]

/-- The logits of one grid point: nothing above the diagonal. -/
def X (h : Fin 16) (q : Fin 256) (j : ℕ) (κ : Fin 256) : EReal :=
  if j * 256 + κ.val ≤ (i 2).val * 256 + q.val then dots x0 x1 h q j κ else ⊥

theorem zeros_at (h : Fin 16) (d : Fin 80) (q : Fin 256) :
    arg7.view.read (Elt Ideal) (arg7.view.writes (Elt Ideal) arg7.view.junk (sl.HS0_1 (F := Ideal))) (ix3 h d q) = 0 := by
  have e : sl.HS0_1 (F := Ideal) = [⟨Rect.unit (s := S16x80x256) ![0, 0, 0] S16x80x256.size inb_S16x80x256_S16x80x256_0_0_0, k0_pay193 (sl.v32 (F := Ideal))⟩] := rfl
  rw [e]
  refine (View.read_writes_cons_unit_of_mem (Val := Elt Ideal) arg7.view arg7.view.junk inb_S16x80x256_S16x80x256_0_0_0 (k0_pay193 (sl.v32 (F := Ideal))) [] (ix3 h d q) (ix3 h d q) rfl fun a => ?_).trans ?_
  · fin_cases a
    · show h.val = 0 + h.val; omega
    · show d.val = 0 + d.val; omega
    · show q.val = 0 + q.val; omega
  · pointwise [k0_pay193, sl.v32, sl.cst]

/-- The state when the tiles left of the diagonal are done. -/
theorem one_at : (∀ h q, nth (one c i arg3 harg3 arg4 harg4 arg5 harg5 arg6 harg6 arg7 harg7 x0 x1 x2).1 h (ix2 0 q) = peak (fun j κ => LG * X i x0 x1 h q j κ) (i 2).val)
    ∧ ∀ h d q, arg7.view.read (Elt Ideal) (arg7.view.writes (Elt Ideal) arg7.view.junk ((one c i arg3 harg3 arg4 harg4 arg5 harg5 arg6 harg6 arg7 harg7 x0 x1 x2).2 ++ sl.HS0_1)) (ix3 h d q)
      = part (fun j κ => LG * X i x0 x1 h q j κ) (rows x2 h d) (i 2).val := by
  have e : Scf.trips (k0_t1_loop i).lb (k0_t1_loop i).ub (k0_t1_loop i).st = (i 2).val := trips1 i
  unfold one
  rw [e, View.writes_append]
  refine walk (S := fun h q j κ => LG * X i x0 x1 h q j κ) (hQ := queries_at c arg3 harg3 x0) (h0 := fun h q => ?_)
    (ha := fun h d q => zeros_at arg7 h d q) (hS := fun h q j hj κ => ?_) (n := (i 2).val) (hn := le_rfl) ..
  · fin_cases h <;> exact mask_named _
  · show LG * X i x0 x1 h q j κ = _
    rw [X, if_pos (by omega)]

/-- The products once the heads below `j` have their diagonal tile. -/
def Good (L : List (View.Piece (Elt Ideal) S16x80x256 .f32)) (j : ℕ) : Prop :=
  ∀ (h : Fin 16) (d : Fin 80) (q : Fin 256), arg7.view.read (Elt Ideal) (arg7.view.writes (Elt Ideal) arg7.view.junk L) (ix3 h d q)
    = if h.val < j then part (fun j κ => LG * X i x0 x1 h q j κ) (rows x2 h d) ((i 2).val + 1)
      else part (fun j κ => LG * X i x0 x1 h q j κ) (rows x2 h d) (i 2).val

theorem good_before : Good i arg7 x0 x1 x2 (before c i arg3 harg3 arg4 harg4 arg5 harg5 arg6 harg6 arg7 harg7 x0 x1 x2) 0 := fun h d q => by
  rw [before, two_eq, if_neg (Nat.not_lt_zero _)]
  exact (one_at c i arg3 harg3 arg4 harg4 arg5 harg5 arg6 harg6 arg7 harg7 x0 x1 x2).2 h d q

theorem diag_at (h : Fin 16) (κ q : Fin 256) :
    scoresD (queries c arg3 harg3 x0 h) (keysD i arg4 (harg4.unread x1) h) (ix2 κ q) = LG * X i x0 x1 h q (i 2).val κ := by
  rw [scoresD_at, X]
  have e : scores (queries c arg3 harg3 x0 h) (keysD i arg4 (harg4.unread x1) h) (ix2 κ q) = LG * dots x0 x1 h q (i 2).val κ := by
    rw [scores_at]
    refine congrArg (LG * ·) (Finset.sum_congr rfl fun d _ => ?_)
    rw [queries_at]
    exact congrArg (· * _) (key_tile harg4 x1 _ h (i 2).val (i 2).isLt (offKD h.val (i 2).val (i 2).isLt) κ d)
  rw [e]
  split_ifs <;> first | rfl | omega | exact lg_mul_bot.symm

theorem good_step (L : List (View.Piece (Elt Ideal) S16x80x256 .f32)) (j : ℕ) (hj : j < 16) (hL : Good i arg7 x0 x1 x2 L j) :
    Good i arg7 x0 x1 x2 (piece j hj (last c i arg3 harg3 arg4 harg4 arg5 harg5 arg6 harg6 arg7 harg7 x0 x1 x2 L ⟨j, hj⟩) :: L) (j + 1) := by
  refine piece_step arg7.view _ L _ (fun h d q => part (fun j κ => LG * X i x0 x1 h q j κ) (rows x2 h d) ((i 2).val + 1)) j hj (inbA j hj) _ (fun d q => ?_) hL
  refine tile_step (fun j' κ => LG * X i x0 x1 ⟨j, hj⟩ q j' κ) (rows x2 ⟨j, hj⟩ d) (i 2).val _ _ _ _ d q ?_ (fun κ => diag_at c i arg3 harg3 arg4 harg4 x0 x1 ⟨j, hj⟩ κ q) ?_
    (fun κ => val_tile harg5 x2 _ ⟨j, hj⟩ (i 2).val (i 2).isLt (offVD j (i 2).val (i 2).isLt) d κ)
  · rw [two_eq]
    exact (one_at c i arg3 harg3 arg4 harg4 arg5 harg5 arg6 harg6 arg7 harg7 x0 x1 x2).1 ⟨j, hj⟩ q
  · refine (acc_tile arg7 (arg7.view.writes (Elt Ideal) arg7.view.junk L) (inbA j hj) ⟨j, hj⟩ rfl d q).trans ((hL ⟨j, hj⟩ d q).trans ?_)
    exact if_neg (Nat.lt_irrefl j)

theorem good0 : Good i arg7 x0 x1 x2 (sl.HS0_1_1 (F := Ideal) c i arg3 harg3 arg4 harg4 arg5 harg5 arg6 harg6 arg7 harg7 x0 x1 x2) 1 :=
  store0 c i arg3 harg3 arg4 harg4 arg5 harg5 arg6 harg6 arg7 harg7 x0 x1 x2 ▸ good_step c i arg3 harg3 arg4 harg4 arg5 harg5 arg6 harg6 arg7 harg7 x0 x1 x2 _ 0 (by decide) (good_before c i arg3 harg3 arg4 harg4 arg5 harg5 arg6 harg6 arg7 harg7 x0 x1 x2)

theorem good1 : Good i arg7 x0 x1 x2 (sl.HS0_2 (F := Ideal) c i arg3 harg3 arg4 harg4 arg5 harg5 arg6 harg6 arg7 harg7 x0 x1 x2) 2 :=
  store1 c i arg3 harg3 arg4 harg4 arg5 harg5 arg6 harg6 arg7 harg7 x0 x1 x2 ▸ good_step c i arg3 harg3 arg4 harg4 arg5 harg5 arg6 harg6 arg7 harg7 x0 x1 x2 _ 1 (by decide) (good0 c i arg3 harg3 arg4 harg4 arg5 harg5 arg6 harg6 arg7 harg7 x0 x1 x2)

theorem good2 : Good i arg7 x0 x1 x2 (sl.HS0_3 (F := Ideal) c i arg3 harg3 arg4 harg4 arg5 harg5 arg6 harg6 arg7 harg7 x0 x1 x2) 3 :=
  store2 c i arg3 harg3 arg4 harg4 arg5 harg5 arg6 harg6 arg7 harg7 x0 x1 x2 ▸ good_step c i arg3 harg3 arg4 harg4 arg5 harg5 arg6 harg6 arg7 harg7 x0 x1 x2 _ 2 (by decide) (good1 c i arg3 harg3 arg4 harg4 arg5 harg5 arg6 harg6 arg7 harg7 x0 x1 x2)

theorem good3 : Good i arg7 x0 x1 x2 (sl.HS0_4 (F := Ideal) c i arg3 harg3 arg4 harg4 arg5 harg5 arg6 harg6 arg7 harg7 x0 x1 x2) 4 :=
  store3 c i arg3 harg3 arg4 harg4 arg5 harg5 arg6 harg6 arg7 harg7 x0 x1 x2 ▸ good_step c i arg3 harg3 arg4 harg4 arg5 harg5 arg6 harg6 arg7 harg7 x0 x1 x2 _ 3 (by decide) (good2 c i arg3 harg3 arg4 harg4 arg5 harg5 arg6 harg6 arg7 harg7 x0 x1 x2)

theorem good4 : Good i arg7 x0 x1 x2 (sl.HS0_5 (F := Ideal) c i arg3 harg3 arg4 harg4 arg5 harg5 arg6 harg6 arg7 harg7 x0 x1 x2) 5 :=
  store4 c i arg3 harg3 arg4 harg4 arg5 harg5 arg6 harg6 arg7 harg7 x0 x1 x2 ▸ good_step c i arg3 harg3 arg4 harg4 arg5 harg5 arg6 harg6 arg7 harg7 x0 x1 x2 _ 4 (by decide) (good3 c i arg3 harg3 arg4 harg4 arg5 harg5 arg6 harg6 arg7 harg7 x0 x1 x2)

theorem good5 : Good i arg7 x0 x1 x2 (sl.HS0_6 (F := Ideal) c i arg3 harg3 arg4 harg4 arg5 harg5 arg6 harg6 arg7 harg7 x0 x1 x2) 6 :=
  store5 c i arg3 harg3 arg4 harg4 arg5 harg5 arg6 harg6 arg7 harg7 x0 x1 x2 ▸ good_step c i arg3 harg3 arg4 harg4 arg5 harg5 arg6 harg6 arg7 harg7 x0 x1 x2 _ 5 (by decide) (good4 c i arg3 harg3 arg4 harg4 arg5 harg5 arg6 harg6 arg7 harg7 x0 x1 x2)

theorem good6 : Good i arg7 x0 x1 x2 (sl.HS0_7 (F := Ideal) c i arg3 harg3 arg4 harg4 arg5 harg5 arg6 harg6 arg7 harg7 x0 x1 x2) 7 :=
  store6 c i arg3 harg3 arg4 harg4 arg5 harg5 arg6 harg6 arg7 harg7 x0 x1 x2 ▸ good_step c i arg3 harg3 arg4 harg4 arg5 harg5 arg6 harg6 arg7 harg7 x0 x1 x2 _ 6 (by decide) (good5 c i arg3 harg3 arg4 harg4 arg5 harg5 arg6 harg6 arg7 harg7 x0 x1 x2)

theorem good7 : Good i arg7 x0 x1 x2 (sl.HS0_8 (F := Ideal) c i arg3 harg3 arg4 harg4 arg5 harg5 arg6 harg6 arg7 harg7 x0 x1 x2) 8 :=
  store7 c i arg3 harg3 arg4 harg4 arg5 harg5 arg6 harg6 arg7 harg7 x0 x1 x2 ▸ good_step c i arg3 harg3 arg4 harg4 arg5 harg5 arg6 harg6 arg7 harg7 x0 x1 x2 _ 7 (by decide) (good6 c i arg3 harg3 arg4 harg4 arg5 harg5 arg6 harg6 arg7 harg7 x0 x1 x2)

theorem good8 : Good i arg7 x0 x1 x2 (sl.HS0_9 (F := Ideal) c i arg3 harg3 arg4 harg4 arg5 harg5 arg6 harg6 arg7 harg7 x0 x1 x2) 9 :=
  store8 c i arg3 harg3 arg4 harg4 arg5 harg5 arg6 harg6 arg7 harg7 x0 x1 x2 ▸ good_step c i arg3 harg3 arg4 harg4 arg5 harg5 arg6 harg6 arg7 harg7 x0 x1 x2 _ 8 (by decide) (good7 c i arg3 harg3 arg4 harg4 arg5 harg5 arg6 harg6 arg7 harg7 x0 x1 x2)

theorem good9 : Good i arg7 x0 x1 x2 (sl.HS0_10 (F := Ideal) c i arg3 harg3 arg4 harg4 arg5 harg5 arg6 harg6 arg7 harg7 x0 x1 x2) 10 :=
  store9 c i arg3 harg3 arg4 harg4 arg5 harg5 arg6 harg6 arg7 harg7 x0 x1 x2 ▸ good_step c i arg3 harg3 arg4 harg4 arg5 harg5 arg6 harg6 arg7 harg7 x0 x1 x2 _ 9 (by decide) (good8 c i arg3 harg3 arg4 harg4 arg5 harg5 arg6 harg6 arg7 harg7 x0 x1 x2)

theorem good10 : Good i arg7 x0 x1 x2 (sl.HS0_11 (F := Ideal) c i arg3 harg3 arg4 harg4 arg5 harg5 arg6 harg6 arg7 harg7 x0 x1 x2) 11 :=
  store10 c i arg3 harg3 arg4 harg4 arg5 harg5 arg6 harg6 arg7 harg7 x0 x1 x2 ▸ good_step c i arg3 harg3 arg4 harg4 arg5 harg5 arg6 harg6 arg7 harg7 x0 x1 x2 _ 10 (by decide) (good9 c i arg3 harg3 arg4 harg4 arg5 harg5 arg6 harg6 arg7 harg7 x0 x1 x2)

theorem good11 : Good i arg7 x0 x1 x2 (sl.HS0_12 (F := Ideal) c i arg3 harg3 arg4 harg4 arg5 harg5 arg6 harg6 arg7 harg7 x0 x1 x2) 12 :=
  store11 c i arg3 harg3 arg4 harg4 arg5 harg5 arg6 harg6 arg7 harg7 x0 x1 x2 ▸ good_step c i arg3 harg3 arg4 harg4 arg5 harg5 arg6 harg6 arg7 harg7 x0 x1 x2 _ 11 (by decide) (good10 c i arg3 harg3 arg4 harg4 arg5 harg5 arg6 harg6 arg7 harg7 x0 x1 x2)

theorem good12 : Good i arg7 x0 x1 x2 (sl.HS0_13 (F := Ideal) c i arg3 harg3 arg4 harg4 arg5 harg5 arg6 harg6 arg7 harg7 x0 x1 x2) 13 :=
  store12 c i arg3 harg3 arg4 harg4 arg5 harg5 arg6 harg6 arg7 harg7 x0 x1 x2 ▸ good_step c i arg3 harg3 arg4 harg4 arg5 harg5 arg6 harg6 arg7 harg7 x0 x1 x2 _ 12 (by decide) (good11 c i arg3 harg3 arg4 harg4 arg5 harg5 arg6 harg6 arg7 harg7 x0 x1 x2)

theorem good13 : Good i arg7 x0 x1 x2 (sl.HS0_14 (F := Ideal) c i arg3 harg3 arg4 harg4 arg5 harg5 arg6 harg6 arg7 harg7 x0 x1 x2) 14 :=
  store13 c i arg3 harg3 arg4 harg4 arg5 harg5 arg6 harg6 arg7 harg7 x0 x1 x2 ▸ good_step c i arg3 harg3 arg4 harg4 arg5 harg5 arg6 harg6 arg7 harg7 x0 x1 x2 _ 13 (by decide) (good12 c i arg3 harg3 arg4 harg4 arg5 harg5 arg6 harg6 arg7 harg7 x0 x1 x2)

theorem good14 : Good i arg7 x0 x1 x2 (sl.HS0_15 (F := Ideal) c i arg3 harg3 arg4 harg4 arg5 harg5 arg6 harg6 arg7 harg7 x0 x1 x2) 15 :=
  store14 c i arg3 harg3 arg4 harg4 arg5 harg5 arg6 harg6 arg7 harg7 x0 x1 x2 ▸ good_step c i arg3 harg3 arg4 harg4 arg5 harg5 arg6 harg6 arg7 harg7 x0 x1 x2 _ 14 (by decide) (good13 c i arg3 harg3 arg4 harg4 arg5 harg5 arg6 harg6 arg7 harg7 x0 x1 x2)

theorem good15 : Good i arg7 x0 x1 x2 (sl.HS0_16 (F := Ideal) c i arg3 harg3 arg4 harg4 arg5 harg5 arg6 harg6 arg7 harg7 x0 x1 x2) 16 :=
  store15 c i arg3 harg3 arg4 harg4 arg5 harg5 arg6 harg6 arg7 harg7 x0 x1 x2 ▸ good_step c i arg3 harg3 arg4 harg4 arg5 harg5 arg6 harg6 arg7 harg7 x0 x1 x2 _ 15 (by decide) (good14 c i arg3 harg3 arg4 harg4 arg5 harg5 arg6 harg6 arg7 harg7 x0 x1 x2)

end Cert.KernelIdeal.Fox

end
-- ==== Proof.Fox.Out.lean ====
module

public import proofs.«01_k».proof.Proof.Fox.Block

@[expose] public section

set_option maxRecDepth 16384

noncomputable section

namespace Cert.KernelIdeal.Fox

open Cert.KernelIdeal Cert.KernelIdeal.Gen Idealize.ShloMosaic Idealize.ShloMosaic.TcCoe Idealize.SL.Sem
open Cert.Fox Cert.KernelIdeal.Gen.kernelRun0_A

variable (c : Dev nD) (i : grid0.Coords) (arg3 : Memref sig .tc .vmem S1x16x1x128x256 .bf16) (harg3 : arg3.IsWhole) (arg4 : Memref sig .tc .vmem S1x16x2048x128 .bf16) (harg4 : arg4.IsWhole) (arg5 : Memref sig .tc .vmem S1x16x8x80x256 .bf16) (harg5 : arg5.IsWhole) (arg6 : Memref sig .tc .vmem S1x256x1024 .bf16) (harg6 : arg6.IsWhole) (arg7 : Memref sig .tc .vmem S16x80x256 .f32) (harg7 : arg7.IsWhole)
variable (x0 : FVec Ideal S1x16x1x128x256 .bf16) (x1 : FVec Ideal S1x16x2048x128 .bf16) (x2 : FVec Ideal S1x16x8x80x256 .bf16)

theorem inb64 (h : ℕ) (hh : h < 16) (y : Fin 3) : (![h, 0, 0] : Fin 3 → ℕ) y + S1x64x256.size y ≤ S16x80x256.size y := by
  fin_cases y <;> simp <;> omega

theorem inb1 (h : ℕ) (hh : h < 16) (y : Fin 3) : (![h, 64, 0] : Fin 3 → ℕ) y + S1x1x256.size y ≤ S16x80x256.size y := by
  fin_cases y <;> simp <;> omega

/-- The quotients of head `h`. -/
def quots (h : Fin 16) : FVec Ideal S64x256 .f32 :=
  k0_pay306 (F := Ideal)
    (arg7.view.readCov (sl.HS0_16 (F := Ideal) c i arg3 harg3 arg4 harg4 arg5 harg5 arg6 harg6 arg7 harg7 x0 x1 x2) (Rect.unit (s := S16x80x256) _ S1x64x256.size (inb64 h.val h.isLt)).toLoadRect)
    (arg7.view.readCov (sl.HS0_16 (F := Ideal) c i arg3 harg3 arg4 harg4 arg5 harg5 arg6 harg6 arg7 harg7 x0 x1 x2) (Rect.unit (s := S16x80x256) _ S1x1x256.size (inb1 h.val h.isLt)).toLoadRect)

theorem read64 (a : Memref sig .tc .vmem S16x80x256 .f32) (f : BufTy.Contents (Elt Ideal) a.view.ty)
    {off : Fin 3 → ℕ} (hb : ∀ y, off y + S1x64x256.size y ≤ S16x80x256.size y) (h : Fin 16)
    (ho : off = ![h.val, 0, 0]) (d : Fin 64) (q : Fin 256) :
    (View.readAt (Elt Ideal) a.view (Rect.unit (s := S16x80x256) off S1x64x256.size hb).toLoadRect f :
      FVec Ideal S1x64x256 .f32) (ix3 0 d q) = a.view.read (Elt Ideal) f (ix3 h ⟨d.val, by omega⟩ q) := by
  subst ho
  rw [View.readAt_eq_ld]
  generalize a.view.read (Elt Ideal) f = x
  pointwise

theorem read1 (a : Memref sig .tc .vmem S16x80x256 .f32) (f : BufTy.Contents (Elt Ideal) a.view.ty)
    {off : Fin 3 → ℕ} (hb : ∀ y, off y + S1x1x256.size y ≤ S16x80x256.size y) (h : Fin 16)
    (ho : off = ![h.val, 64, 0]) (q : Fin 256) :
    (View.readAt (Elt Ideal) a.view (Rect.unit (s := S16x80x256) off S1x1x256.size hb).toLoadRect f :
      FVec Ideal S1x1x256 .f32) (ix3 0 0 q) = a.view.read (Elt Ideal) f (ix3 h 64 q) := by
  subst ho
  rw [View.readAt_eq_ld]
  generalize a.view.read (Elt Ideal) f = x
  pointwise

/-- What a grid point leaves for head `h`. -/
def cell (h : Fin 16) (q : Fin 256) (d : Fin 80) : EReal :=
  part (fun j κ => LG * X i x0 x1 h q j κ) (rows x2 h d) ((i 2).val + 1)

theorem quots_at (h : Fin 16) (d : Fin 64) (q : Fin 256) : quots c i arg3 harg3 arg4 harg4 arg5 harg5 arg6 harg6 arg7 harg7 x0 x1 x2 h (ix2 d q)
    = cell i x0 x1 x2 h q ⟨d.val, by omega⟩ * Ideal.div 1 (cell i x0 x1 x2 h q 64) := by
  have g : ∀ e : Fin 80, arg7.view.read (Elt Ideal) (arg7.view.writes (Elt Ideal) arg7.view.junk (sl.HS0_16 (F := Ideal) c i arg3 harg3 arg4 harg4 arg5 harg5 arg6 harg6 arg7 harg7 x0 x1 x2)) (ix3 h e q)
      = cell i x0 x1 x2 h q e := fun e => (good15 c i arg3 harg3 arg4 harg4 arg5 harg5 arg6 harg6 arg7 harg7 x0 x1 x2 h e q).trans (if_pos h.isLt)
  unfold quots
  refine (quot_at _ _ d q).trans (congrArg₂ (fun a l => a * Ideal.div 1 l) ?_ ?_)
  · exact (read64 arg7 _ (inb64 h.val h.isLt) h rfl d q).trans (g _)
  · exact (read1 arg7 _ (inb1 h.val h.isLt) h rfl q).trans (g _)

theorem inbO (y : Fin 3) : (![0, 0, 0] : Fin 3 → ℕ) y + S1x256x1024.size y ≤ S1x256x1024.size y := by
  fin_cases y <;> simp

theorem out_eq : out0_A_3 (F := Ideal) c i arg3 harg3 arg4 harg4 arg5 harg5 arg6 harg6 arg7 harg7 x0 x1 x2
    = VO0_3.read (Elt Ideal) (VO0_3.writes (Elt Ideal) VO0_3.junk [⟨Rect.unit (s := S1x256x1024) ![0, 0, 0] S1x256x1024.size inbO,
        k0_pay1 (F := Ideal) (quots c i arg3 harg3 arg4 harg4 arg5 harg5 arg6 harg6 arg7 harg7 x0 x1 x2 0) (quots c i arg3 harg3 arg4 harg4 arg5 harg5 arg6 harg6 arg7 harg7 x0 x1 x2 1) (quots c i arg3 harg3 arg4 harg4 arg5 harg5 arg6 harg6 arg7 harg7 x0 x1 x2 2) (quots c i arg3 harg3 arg4 harg4 arg5 harg5 arg6 harg6 arg7 harg7 x0 x1 x2 3) (quots c i arg3 harg3 arg4 harg4 arg5 harg5 arg6 harg6 arg7 harg7 x0 x1 x2 4) (quots c i arg3 harg3 arg4 harg4 arg5 harg5 arg6 harg6 arg7 harg7 x0 x1 x2 5) (quots c i arg3 harg3 arg4 harg4 arg5 harg5 arg6 harg6 arg7 harg7 x0 x1 x2 6) (quots c i arg3 harg3 arg4 harg4 arg5 harg5 arg6 harg6 arg7 harg7 x0 x1 x2 7) (quots c i arg3 harg3 arg4 harg4 arg5 harg5 arg6 harg6 arg7 harg7 x0 x1 x2 8) (quots c i arg3 harg3 arg4 harg4 arg5 harg5 arg6 harg6 arg7 harg7 x0 x1 x2 9) (quots c i arg3 harg3 arg4 harg4 arg5 harg5 arg6 harg6 arg7 harg7 x0 x1 x2 10) (quots c i arg3 harg3 arg4 harg4 arg5 harg5 arg6 harg6 arg7 harg7 x0 x1 x2 11) (quots c i arg3 harg3 arg4 harg4 arg5 harg5 arg6 harg6 arg7 harg7 x0 x1 x2 12) (quots c i arg3 harg3 arg4 harg4 arg5 harg5 arg6 harg6 arg7 harg7 x0 x1 x2 13) (quots c i arg3 harg3 arg4 harg4 arg5 harg5 arg6 harg6 arg7 harg7 x0 x1 x2 14) (quots c i arg3 harg3 arg4 harg4 arg5 harg5 arg6 harg6 arg7 harg7 x0 x1 x2 15)⟩]) := by
  unfold out0_A_3 kernelRun0_A
  dsimp only
  rfl

/-- What a grid point leaves in its output block. -/
theorem out_at (q : Fin 256) (y : Fin 1024) : out0_A_3 (F := Ideal) c i arg3 harg3 arg4 harg4 arg5 harg5 arg6 harg6 arg7 harg7 x0 x1 x2 (ix3 0 q y)
    = cell i x0 x1 x2 ⟨y.val / 64, by omega⟩ q ⟨y.val % 64, by omega⟩ * Ideal.div 1 (cell i x0 x1 x2 ⟨y.val / 64, by omega⟩ q 64) := by
  rw [out_eq]
  refine (View.read_writes_cons_unit_of_mem (Val := Elt Ideal) VO0_3 VO0_3.junk inbO _ [] (ix3 0 q y) (ix3 0 q y) rfl fun a => ?_).trans ?_
  · fin_cases a
    · rfl
    · show q.val = 0 + q.val; omega
    · show y.val = 0 + y.val; omega
  · exact (heads_at (quots c i arg3 harg3 arg4 harg4 arg5 harg5 arg6 harg6 arg7 harg7 x0 x1 x2) q y).trans (quots_at c i arg3 harg3 arg4 harg4 arg5 harg5 arg6 harg6 arg7 harg7 x0 x1 x2 _ _ q)

end Cert.KernelIdeal.Fox

end
-- ==== Proof.Fox.Reference.lean ====
module

public import proofs.«01_k».proof.Proof.Fox.Spec
public import proofs.«01_k».proof.Proof.Gen.ReferenceIdeal.Run
public import Idealize.ShloMosaic.Lib.Pipeline.ValueKit

@[expose] public section

set_option maxRecDepth 16384

noncomputable section

namespace Cert.ReferenceIdeal.Fox

open Cert.ReferenceIdeal Cert.ReferenceIdeal.Gen Idealize.ShloMosaic Idealize.ShloMosaic.TcCoe Idealize.SL.Sem
open Cert.Fox

variable (q k v : FVec Ideal S8x16x2048x64 .f32) (cc : FVec Ideal S8x16x2048 .f32)

/-- The reference's array of logits, those above the diagonal at minus infinity. -/
def LGT : FVec Ideal S8x16x2048x2048 .f32 :=
  select (broadcastInDim S8x16x2048x2048 ![2, 3] bcast_S2048x2048_S8x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (addf (mulf (Host.dotGeneral dot_S8x16x2048x64_S8x16x2048x64_S8x16x2048x2048_3_3_2_2_01_01 none q k) (broadcastInDim S8x16x2048x2048 ![] bcast_S_S8x16x2048x2048 (constant S_ .f32 0x3E000000#32)))
      (subf (broadcastInDim S8x16x2048x2048 ![0, 1, 2, 3] bcast_S8x16x2048x1_S8x16x2048x2048_0_1_2_3 (broadcastInDim S8x16x2048x1 ![0, 1, 2] bcast_S8x16x2048_S8x16x2048x1_0_1_2 cc)) (broadcastInDim S8x16x2048x2048 ![0, 1, 2, 3] bcast_S8x16x1x2048_S8x16x2048x2048_0_1_2_3 (broadcastInDim S8x16x1x2048 ![0, 1, 3] bcast_S8x16x2048_S8x16x1x2048_0_1_3 cc))))
    (broadcastInDim S8x16x2048x2048 ![] bcast_S_S8x16x2048x2048 (id (constant S_ .f32 0xFF800000#32)))

theorem LGT_at (b : Fin 8) (h : Fin 16) (t s : Fin 2048) : LGT q k cc (ix4 b h t s)
    = logit (fun d => q (ix4 b h t d)) (fun d => k (ix4 b h s d)) (cc (ix3 b h t)) (cc (ix3 b h s)) t s := by
  pointwise [LGT]
  rw [logit, scl, ← eighth, sge t.isLt s.isLt]
  split_ifs with hts
  · rfl
  · exact neg_inf

/-- The largest logit of each row. -/
def TOP (L : FVec Ideal S8x16x2048x2048 .f32) : FVec Ideal S8x16x2048 .f32 :=
  maximumf (broadcastInDim S8x16x2048 ![] bcast_S_S8x16x2048 (constant S_ .f32 0xFF800000#32)) (Host.reduce FloatOps.maximumf L (constant S_ .f32 0xFF800000#32) reducesTo_S8x16x2048x2048_S8x16x2048_d3 h_S_)

theorem red3 : S8x16x2048x2048.Reduces [3] S8x16x2048 := by decide

theorem lift3 (b : Fin 8) (h : Fin 16) (t s : Fin 2048) : red3.lift (ix3 b h t) s = ix4 b h t s := by
  funext a
  fin_cases a <;> rfl

/-- The host's largest value along one axis. -/
theorem host_max {s t : Shape} {a : Fin s.rank} (x : FVec Ideal s .f32) (h' : s.ReducesTo [a] t) (h : s.Reduces [a] t) (hu : 0 < S_.numel) (j : t.Idx) :
    Host.reduce FloatOps.maximumf x (constant (F := Ideal) S_ .f32 0xFF800000#32) h' hu j = (Finset.univ : Finset (Fin (s.size a))).fold max ⊥ (x ∘ h.lift j) := by
  rw [Host.reduce_eq_fold_single FloatOps.maximumf x _ h' h hu]
  exact congrArg (fun e => Finset.fold max e (x ∘ h.lift j) Finset.univ) neg_inf

theorem max_at {s : Shape} (x y : FVec Ideal s .f32) (i : s.Idx) : maximumf x y i = max (x i) (y i) := rfl

theorem bottom_at {t : Shape} (h : S_.BroadcastsInDim t ![]) (i : t.Idx) :
    broadcastInDim t ![] h (constant (F := Ideal) S_ .f32 0xFF800000#32) i = ⊥ := neg_inf

theorem TOP_at (L : FVec Ideal S8x16x2048x2048 .f32) (b : Fin 8) (h : Fin 16) (t : Fin 2048) : TOP L (ix3 b h t)
    = Finset.univ.fold max ⊥ fun s => L (ix4 b h t s) := by
  rw [TOP, max_at, bottom_at, host_max L _ red3]
  refine (max_eq_right bot_le).trans ?_
  have e : (L ∘ red3.lift (ix3 b h t)) = fun s => L (ix4 b h t s) := funext fun s => congrArg L (lift3 b h t s)
  exact congrArg (fun f => Finset.fold max (⊥ : EReal) f (Finset.univ : Finset (Fin 2048))) e

/-- The weights of each row before they are divided by their sum. -/
def RAW (L : FVec Ideal S8x16x2048x2048 .f32) (M : FVec Ideal S8x16x2048 .f32) : FVec Ideal S8x16x2048x2048 .f32 :=
  Host.exp (subf L (broadcastInDim S8x16x2048x2048 ![0, 1, 2, 3] bcast_S8x16x2048x1_S8x16x2048x2048_0_1_2_3 (broadcastInDim S8x16x2048x1 ![0, 1, 2] bcast_S8x16x2048_S8x16x2048x1_0_1_2 M)))

theorem RAW_at (L : FVec Ideal S8x16x2048x2048 .f32) (M : FVec Ideal S8x16x2048 .f32) (b : Fin 8) (h : Fin 16) (t s : Fin 2048) :
    RAW L M (ix4 b h t s) = Ideal.exp (L (ix4 b h t s) - M (ix3 b h t)) := by
  pointwise [RAW]

/-- The attention's result, from its raw weights. -/
def RES (E : FVec Ideal S8x16x2048x2048 .f32) : FVec Ideal S8x2048x1024 .bf16 :=
  truncf .bf16 (shapeCast _ (transpose S8x2048x16x64 [0, 2, 1, 3] (Host.dotGeneral dot_S8x16x2048x2048_S8x16x2048x64_S8x16x2048x64_3_2_2_3_01_01 none
    (Host.divf E (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd E (constant S_ .f32 0x00000000#32) reducesTo_S8x16x2048x2048_S8x16x2048_d3 h_S_)))) v)
    transposes_S8x16x2048x64_S8x2048x16x64_0_2_1_3) shapeCasts_S8x2048x16x64_S8x2048x1024) bitsLt_bf16_f32

theorem RES_at (E : FVec Ideal S8x16x2048x2048 .f32) (b : Fin 8) (t : Fin 2048) (y : Fin 1024) :
    RES v E (ix3 b t y) = ∑ s, Ideal.div (E (ix4 b ⟨y.val / 64, by omega⟩ t s)) (∑ s, E (ix4 b ⟨y.val / 64, by omega⟩ t s))
      * v (ix4 b ⟨y.val / 64, by omega⟩ s ⟨y.val % 64, by omega⟩) := by
  pointwise [RES]

end Cert.ReferenceIdeal.Fox

end
-- ==== Proof.Fox.Answer.lean ====
module

public import proofs.«01_k».proof.Proof.Fox.Reference

@[expose] public section

set_option maxRecDepth 16384

noncomputable section

/-! The reference's row of attention, summed by tiles of 256 keys. -/

namespace Cert.ReferenceIdeal.Fox

open Cert.ReferenceIdeal Cert.ReferenceIdeal.Gen Idealize.ShloMosaic Idealize.ShloMosaic.TcCoe Idealize.SL.Sem
open Cert.Fox

/-- The logit of real rows is a real where the key does not come after the query. -/
theorem logit_real (q k : Fin 64 → ℝ) (x y : ℝ) (t s : ℕ) (h : s ≤ t) :
    logit (fun d => (q d : EReal)) (fun d => (k d : EReal)) x y t s = (((∑ d, q d * k d) * (1 / 8) + (x - y) : ℝ) : EReal) := by
  rw [logit, if_pos h, scl]
  have h2 : (∑ e, ((q e : ℝ) : EReal) * (k e : EReal)) = ((∑ e, q e * k e : ℝ) : EReal) := by
    rw [coe_sum]; rfl
  rw [h2]
  rfl

variable (q k v : FVec Ideal S8x16x2048x64 .f32) (cc : FVec Ideal S8x16x2048 .f32)

/-- The logit at a tile and a place in it. -/
def tiled (b : Fin 8) (h : Fin 16) (t : Fin 2048) (j : ℕ) (κ : Fin 256) : EReal :=
  logit (fun d => q (ix4 b h t d)) (fun d => k (ix4 b h ⟨(j * 256 + κ.val) % 2048, by omega⟩ d)) (cc (ix3 b h t))
    (cc (ix3 b h ⟨(j * 256 + κ.val) % 2048, by omega⟩)) t.val (j * 256 + κ.val)

theorem tiled_at (b : Fin 8) (h : Fin 16) (t : Fin 2048) (j : ℕ) (hj : j < 8) (κ : Fin 256) :
    tiled q k cc b h t j κ = LGT q k cc (ix4 b h t ⟨j * 256 + κ.val, by omega⟩) := by
  have e : (⟨(j * 256 + κ.val) % 2048, by omega⟩ : Fin 2048) = ⟨j * 256 + κ.val, by omega⟩ :=
    Fin.ext (Nat.mod_eq_of_lt (by omega))
  rw [LGT_at, tiled, e]

/-- A sum over the keys, by tiles. -/
theorem by_tiles (f : Fin 2048 → EReal) (g : ℕ → Fin 256 → EReal)
    (hg : ∀ j (hj : j < 8) κ, g j κ = f ⟨j * 256 + κ.val, by omega⟩) :
    ∑ j ∈ Finset.range 8, ∑ κ, g j κ = ∑ s, f s := by
  rw [Finset.sum_range]
  refine Eq.trans ?_ (Fin.sum_mul_add_fin 8 256 f)
  exact Finset.sum_congr rfl fun j _ => Finset.sum_congr rfl fun κ _ => hg j.val j.isLt κ

/-- The row, from the tiles up to the query's own. -/
theorem attend (hq : ∀ i, ∃ r : ℝ, q i = r) (hk : ∀ i, ∃ r : ℝ, k i = r) (hc : ∀ i, ∃ r : ℝ, cc i = r)
    (b : Fin 8) (h : Fin 16) (t : Fin 2048) (n : ℕ) (hn : n < 8) (a : Fin 256) (ht : t.val = n * 256 + a.val) (d : Fin 64)
    (V : ℕ → Fin 256 → EReal) (hV : ∀ j (hj : j < 8) κ, V j κ = v (ix4 b h ⟨j * 256 + κ.val, by omega⟩ d)) :
    part (fun j κ => LG * tiled q k cc b h t j κ) V (n + 1)
        * Ideal.div 1 (part (fun j κ => LG * tiled q k cc b h t j κ) (fun _ _ => 1) (n + 1))
      = ∑ s, Ideal.div (RAW (LGT q k cc) (TOP (LGT q k cc)) (ix4 b h t s)) (∑ s, RAW (LGT q k cc) (TOP (LGT q k cc)) (ix4 b h t s))
          * v (ix4 b h s d) := by
  have real : ∀ j κ, j * 256 + κ.val ≤ t.val → ∃ r : ℝ, tiled q k cc b h t j κ = r := by
    intro j κ hj
    choose qr hq' using hq
    choose kr hk' using hk
    choose cr hc' using hc
    refine ⟨_, Eq.trans ?_ (logit_real (fun d => qr (ix4 b h t d)) (fun d => kr (ix4 b h ⟨(j * 256 + κ.val) % 2048, by omega⟩ d))
      (cr (ix3 b h t)) (cr (ix3 b h ⟨(j * 256 + κ.val) % 2048, by omega⟩)) t.val (j * 256 + κ.val) hj)⟩
    simp only [tiled, hq', hk', hc']
  have off : ∀ j κ, ¬ j * 256 + κ.val ≤ t.val → tiled q k cc b h t j κ = ⊥ := fun j κ hj => if_neg hj
  refine (row_eq V (tiled q k cc b h t) (n + 1) 8 (by omega) (TOP (LGT q k cc) (ix3 b h t)) ?_ ?_ ?_ 0 (by omega) 0 ?_).trans ?_
  · intro u
    rw [TOP_at, Finset.fold_max_le]
    constructor
    · intro hu j hj κ
      rw [tiled_at q k cc b h t j hj κ]
      exact hu.2 _ (Finset.mem_univ _)
    · intro hu
      refine ⟨bot_le, fun s _ => ?_⟩
      have := hu (s.val / 256) (by omega) ⟨s.val % 256, by omega⟩
      rw [tiled_at q k cc b h t _ (by omega)] at this
      have e : (⟨s.val / 256 * 256 + s.val % 256, by omega⟩ : Fin 2048) = s := Fin.ext (by show s.val / 256 * 256 + s.val % 256 = s.val; omega)
      rwa [e] at this
  · intro j κ
    by_cases hj : j * 256 + κ.val ≤ t.val
    · obtain ⟨r, hr⟩ := real j κ hj
      rw [hr]
      exact EReal.coe_ne_top r
    · rw [off j κ hj]
      exact bot_ne_top
  · intro j hj κ
    exact off j κ (by omega)
  · obtain ⟨r, hr⟩ := real 0 0 (by simp)
    rw [hr]
    exact EReal.coe_ne_bot r
  · have raw : ∀ j (hj : j < 8) (κ : Fin 256), Ideal.exp (tiled q k cc b h t j κ - TOP (LGT q k cc) (ix3 b h t))
        = RAW (LGT q k cc) (TOP (LGT q k cc)) (ix4 b h t ⟨j * 256 + κ.val, by omega⟩) := by
      intro j hj κ
      rw [RAW_at, tiled_at q k cc b h t j hj κ]
    rw [by_tiles (fun s => RAW (LGT q k cc) (TOP (LGT q k cc)) (ix4 b h t s)) _ raw]
    refine by_tiles (fun s => Ideal.div (RAW (LGT q k cc) (TOP (LGT q k cc)) (ix4 b h t s)) _ * v (ix4 b h s d)) _ fun j hj κ => ?_
    rw [raw j hj κ, hV j hj κ]

end Cert.ReferenceIdeal.Fox

end
-- ==== Proof.Fox.Host.lean ====
module

public import proofs.«01_k».proof.Proof.Fox.Spec
public import proofs.«01_k».proof.KernelIdeal
public import proofs.«01_k».proof.Proof.Gen.KernelIdeal.Value
public import Idealize.ShloMosaic.Lib.IdealHost
public import Idealize.ShloMosaic.Lib.Pipeline.ValueKit
public import Idealize.ShloMosaic.Lib.StableHlo.RunRead

@[expose] public section

set_option maxRecDepth 16384

noncomputable section

/-! The arrays the host code hands the launch, at an index. -/

namespace Cert.KernelIdeal.Fox

open Cert.KernelIdeal Cert.KernelIdeal.Gen Idealize.ShloMosaic Idealize.ShloMosaic.TcCoe Idealize.SL.Sem
open Cert.Fox Facts

/-- The queries, with the pieces laid next to them. -/
def catQ (a : FVec Ideal S8x16x2048x64 .f32) (b : FVec Ideal S8x16x2048x1 .f32) (c : FVec Ideal S8x16x2048x1 .f32) (d : FVec Ideal S8x16x2048x1 .f32) (e : FVec Ideal S8x16x2048x3 .f32) (f : FVec Ideal S8x16x2048x58 .f32) : FVec Ideal S8x16x2048x128 .f32 :=
  concatenate S8x16x2048x128 3 [⟨S8x16x2048x64, a⟩, ⟨S8x16x2048x1, b⟩, ⟨S8x16x2048x1, c⟩, ⟨S8x16x2048x1, d⟩, ⟨S8x16x2048x3, e⟩, ⟨S8x16x2048x58, f⟩]
    concatenates_S8x16x2048x64_S8x16x2048x1_S8x16x2048x1_S8x16x2048x1_S8x16x2048x3_S8x16x2048x58_S8x16x2048x128_d3

theorem catQ_a (a : FVec Ideal S8x16x2048x64 .f32) (b : FVec Ideal S8x16x2048x1 .f32) (c : FVec Ideal S8x16x2048x1 .f32) (d : FVec Ideal S8x16x2048x1 .f32) (e : FVec Ideal S8x16x2048x3 .f32) (f : FVec Ideal S8x16x2048x58 .f32)
    (x : Fin 8) (h : Fin 16) (t : Fin 2048) (j : Fin 64) :
    catQ a b c d e f (ix4 x h t ⟨0 + j.val, by omega⟩) = a (ix4 x h t j) := by
  refine concatenate_apply_piece (t := S8x16x2048x128) 3 _ _ _ 0 (by simp) S8x16x2048x64 a rfl rfl 0 (by rfl) (ix4 x h t j) (fun y hy => ?_) rfl
  fin_cases y
  · rfl
  · rfl
  · rfl
  · exact absurd rfl hy

theorem catQ_b (a : FVec Ideal S8x16x2048x64 .f32) (b : FVec Ideal S8x16x2048x1 .f32) (c : FVec Ideal S8x16x2048x1 .f32) (d : FVec Ideal S8x16x2048x1 .f32) (e : FVec Ideal S8x16x2048x3 .f32) (f : FVec Ideal S8x16x2048x58 .f32)
    (x : Fin 8) (h : Fin 16) (t : Fin 2048) (j : Fin 1) :
    catQ a b c d e f (ix4 x h t ⟨64 + j.val, by omega⟩) = b (ix4 x h t j) := by
  refine concatenate_apply_piece (t := S8x16x2048x128) 3 _ _ _ 1 (by simp) S8x16x2048x1 b rfl rfl 64 (by rfl) (ix4 x h t j) (fun y hy => ?_) rfl
  fin_cases y
  · rfl
  · rfl
  · rfl
  · exact absurd rfl hy

theorem catQ_c (a : FVec Ideal S8x16x2048x64 .f32) (b : FVec Ideal S8x16x2048x1 .f32) (c : FVec Ideal S8x16x2048x1 .f32) (d : FVec Ideal S8x16x2048x1 .f32) (e : FVec Ideal S8x16x2048x3 .f32) (f : FVec Ideal S8x16x2048x58 .f32)
    (x : Fin 8) (h : Fin 16) (t : Fin 2048) (j : Fin 1) :
    catQ a b c d e f (ix4 x h t ⟨65 + j.val, by omega⟩) = c (ix4 x h t j) := by
  refine concatenate_apply_piece (t := S8x16x2048x128) 3 _ _ _ 2 (by simp) S8x16x2048x1 c rfl rfl 65 (by rfl) (ix4 x h t j) (fun y hy => ?_) rfl
  fin_cases y
  · rfl
  · rfl
  · rfl
  · exact absurd rfl hy

theorem catQ_d (a : FVec Ideal S8x16x2048x64 .f32) (b : FVec Ideal S8x16x2048x1 .f32) (c : FVec Ideal S8x16x2048x1 .f32) (d : FVec Ideal S8x16x2048x1 .f32) (e : FVec Ideal S8x16x2048x3 .f32) (f : FVec Ideal S8x16x2048x58 .f32)
    (x : Fin 8) (h : Fin 16) (t : Fin 2048) (j : Fin 1) :
    catQ a b c d e f (ix4 x h t ⟨66 + j.val, by omega⟩) = d (ix4 x h t j) := by
  refine concatenate_apply_piece (t := S8x16x2048x128) 3 _ _ _ 3 (by simp) S8x16x2048x1 d rfl rfl 66 (by rfl) (ix4 x h t j) (fun y hy => ?_) rfl
  fin_cases y
  · rfl
  · rfl
  · rfl
  · exact absurd rfl hy

theorem catQ_e (a : FVec Ideal S8x16x2048x64 .f32) (b : FVec Ideal S8x16x2048x1 .f32) (c : FVec Ideal S8x16x2048x1 .f32) (d : FVec Ideal S8x16x2048x1 .f32) (e : FVec Ideal S8x16x2048x3 .f32) (f : FVec Ideal S8x16x2048x58 .f32)
    (x : Fin 8) (h : Fin 16) (t : Fin 2048) (j : Fin 3) :
    catQ a b c d e f (ix4 x h t ⟨67 + j.val, by omega⟩) = e (ix4 x h t j) := by
  refine concatenate_apply_piece (t := S8x16x2048x128) 3 _ _ _ 4 (by simp) S8x16x2048x3 e rfl rfl 67 (by rfl) (ix4 x h t j) (fun y hy => ?_) rfl
  fin_cases y
  · rfl
  · rfl
  · rfl
  · exact absurd rfl hy

theorem catQ_f (a : FVec Ideal S8x16x2048x64 .f32) (b : FVec Ideal S8x16x2048x1 .f32) (c : FVec Ideal S8x16x2048x1 .f32) (d : FVec Ideal S8x16x2048x1 .f32) (e : FVec Ideal S8x16x2048x3 .f32) (f : FVec Ideal S8x16x2048x58 .f32)
    (x : Fin 8) (h : Fin 16) (t : Fin 2048) (j : Fin 58) :
    catQ a b c d e f (ix4 x h t ⟨70 + j.val, by omega⟩) = f (ix4 x h t j) := by
  refine concatenate_apply_piece (t := S8x16x2048x128) 3 _ _ _ 5 (by simp) S8x16x2048x58 f rfl rfl 70 (by rfl) (ix4 x h t j) (fun y hy => ?_) rfl
  fin_cases y
  · rfl
  · rfl
  · rfl
  · exact absurd rfl hy

/-- The keys, with the pieces laid next to them. -/
def catK (a : FVec Ideal S8x16x2048x64 .f32) (b : FVec Ideal S8x16x2048x3 .f32) (c : FVec Ideal S8x16x2048x1 .f32) (d : FVec Ideal S8x16x2048x1 .f32) (e : FVec Ideal S8x16x2048x1 .f32) (f : FVec Ideal S8x16x2048x58 .f32) : FVec Ideal S8x16x2048x128 .f32 :=
  concatenate S8x16x2048x128 3 [⟨S8x16x2048x64, a⟩, ⟨S8x16x2048x3, b⟩, ⟨S8x16x2048x1, c⟩, ⟨S8x16x2048x1, d⟩, ⟨S8x16x2048x1, e⟩, ⟨S8x16x2048x58, f⟩]
    concatenates_S8x16x2048x64_S8x16x2048x3_S8x16x2048x1_S8x16x2048x1_S8x16x2048x1_S8x16x2048x58_S8x16x2048x128_d3

theorem catK_a (a : FVec Ideal S8x16x2048x64 .f32) (b : FVec Ideal S8x16x2048x3 .f32) (c : FVec Ideal S8x16x2048x1 .f32) (d : FVec Ideal S8x16x2048x1 .f32) (e : FVec Ideal S8x16x2048x1 .f32) (f : FVec Ideal S8x16x2048x58 .f32)
    (x : Fin 8) (h : Fin 16) (t : Fin 2048) (j : Fin 64) :
    catK a b c d e f (ix4 x h t ⟨0 + j.val, by omega⟩) = a (ix4 x h t j) := by
  refine concatenate_apply_piece (t := S8x16x2048x128) 3 _ _ _ 0 (by simp) S8x16x2048x64 a rfl rfl 0 (by rfl) (ix4 x h t j) (fun y hy => ?_) rfl
  fin_cases y
  · rfl
  · rfl
  · rfl
  · exact absurd rfl hy

theorem catK_b (a : FVec Ideal S8x16x2048x64 .f32) (b : FVec Ideal S8x16x2048x3 .f32) (c : FVec Ideal S8x16x2048x1 .f32) (d : FVec Ideal S8x16x2048x1 .f32) (e : FVec Ideal S8x16x2048x1 .f32) (f : FVec Ideal S8x16x2048x58 .f32)
    (x : Fin 8) (h : Fin 16) (t : Fin 2048) (j : Fin 3) :
    catK a b c d e f (ix4 x h t ⟨64 + j.val, by omega⟩) = b (ix4 x h t j) := by
  refine concatenate_apply_piece (t := S8x16x2048x128) 3 _ _ _ 1 (by simp) S8x16x2048x3 b rfl rfl 64 (by rfl) (ix4 x h t j) (fun y hy => ?_) rfl
  fin_cases y
  · rfl
  · rfl
  · rfl
  · exact absurd rfl hy

theorem catK_c (a : FVec Ideal S8x16x2048x64 .f32) (b : FVec Ideal S8x16x2048x3 .f32) (c : FVec Ideal S8x16x2048x1 .f32) (d : FVec Ideal S8x16x2048x1 .f32) (e : FVec Ideal S8x16x2048x1 .f32) (f : FVec Ideal S8x16x2048x58 .f32)
    (x : Fin 8) (h : Fin 16) (t : Fin 2048) (j : Fin 1) :
    catK a b c d e f (ix4 x h t ⟨67 + j.val, by omega⟩) = c (ix4 x h t j) := by
  refine concatenate_apply_piece (t := S8x16x2048x128) 3 _ _ _ 2 (by simp) S8x16x2048x1 c rfl rfl 67 (by rfl) (ix4 x h t j) (fun y hy => ?_) rfl
  fin_cases y
  · rfl
  · rfl
  · rfl
  · exact absurd rfl hy

theorem catK_d (a : FVec Ideal S8x16x2048x64 .f32) (b : FVec Ideal S8x16x2048x3 .f32) (c : FVec Ideal S8x16x2048x1 .f32) (d : FVec Ideal S8x16x2048x1 .f32) (e : FVec Ideal S8x16x2048x1 .f32) (f : FVec Ideal S8x16x2048x58 .f32)
    (x : Fin 8) (h : Fin 16) (t : Fin 2048) (j : Fin 1) :
    catK a b c d e f (ix4 x h t ⟨68 + j.val, by omega⟩) = d (ix4 x h t j) := by
  refine concatenate_apply_piece (t := S8x16x2048x128) 3 _ _ _ 3 (by simp) S8x16x2048x1 d rfl rfl 68 (by rfl) (ix4 x h t j) (fun y hy => ?_) rfl
  fin_cases y
  · rfl
  · rfl
  · rfl
  · exact absurd rfl hy

theorem catK_e (a : FVec Ideal S8x16x2048x64 .f32) (b : FVec Ideal S8x16x2048x3 .f32) (c : FVec Ideal S8x16x2048x1 .f32) (d : FVec Ideal S8x16x2048x1 .f32) (e : FVec Ideal S8x16x2048x1 .f32) (f : FVec Ideal S8x16x2048x58 .f32)
    (x : Fin 8) (h : Fin 16) (t : Fin 2048) (j : Fin 1) :
    catK a b c d e f (ix4 x h t ⟨69 + j.val, by omega⟩) = e (ix4 x h t j) := by
  refine concatenate_apply_piece (t := S8x16x2048x128) 3 _ _ _ 4 (by simp) S8x16x2048x1 e rfl rfl 69 (by rfl) (ix4 x h t j) (fun y hy => ?_) rfl
  fin_cases y
  · rfl
  · rfl
  · rfl
  · exact absurd rfl hy

theorem catK_f (a : FVec Ideal S8x16x2048x64 .f32) (b : FVec Ideal S8x16x2048x3 .f32) (c : FVec Ideal S8x16x2048x1 .f32) (d : FVec Ideal S8x16x2048x1 .f32) (e : FVec Ideal S8x16x2048x1 .f32) (f : FVec Ideal S8x16x2048x58 .f32)
    (x : Fin 8) (h : Fin 16) (t : Fin 2048) (j : Fin 58) :
    catK a b c d e f (ix4 x h t ⟨70 + j.val, by omega⟩) = f (ix4 x h t j) := by
  refine concatenate_apply_piece (t := S8x16x2048x128) 3 _ _ _ 5 (by simp) S8x16x2048x58 f rfl rfl 70 (by rfl) (ix4 x h t j) (fun y hy => ?_) rfl
  fin_cases y
  · rfl
  · rfl
  · rfl
  · exact absurd rfl hy

/-- The values, with the pieces laid next to them. -/
def catV (a : FVec Ideal S8x16x2048x64 .f32) (b : FVec Ideal S8x16x2048x1 .f32) (c : FVec Ideal S8x16x2048x15 .f32) : FVec Ideal S8x16x2048x80 .f32 :=
  concatenate S8x16x2048x80 3 [⟨S8x16x2048x64, a⟩, ⟨S8x16x2048x1, b⟩, ⟨S8x16x2048x15, c⟩]
    concatenates_S8x16x2048x64_S8x16x2048x1_S8x16x2048x15_S8x16x2048x80_d3

theorem catV_a (a : FVec Ideal S8x16x2048x64 .f32) (b : FVec Ideal S8x16x2048x1 .f32) (c : FVec Ideal S8x16x2048x15 .f32)
    (x : Fin 8) (h : Fin 16) (t : Fin 2048) (j : Fin 64) :
    catV a b c (ix4 x h t ⟨0 + j.val, by omega⟩) = a (ix4 x h t j) := by
  refine concatenate_apply_piece (t := S8x16x2048x80) 3 _ _ _ 0 (by simp) S8x16x2048x64 a rfl rfl 0 (by rfl) (ix4 x h t j) (fun y hy => ?_) rfl
  fin_cases y
  · rfl
  · rfl
  · rfl
  · exact absurd rfl hy

theorem catV_b (a : FVec Ideal S8x16x2048x64 .f32) (b : FVec Ideal S8x16x2048x1 .f32) (c : FVec Ideal S8x16x2048x15 .f32)
    (x : Fin 8) (h : Fin 16) (t : Fin 2048) (j : Fin 1) :
    catV a b c (ix4 x h t ⟨64 + j.val, by omega⟩) = b (ix4 x h t j) := by
  refine concatenate_apply_piece (t := S8x16x2048x80) 3 _ _ _ 1 (by simp) S8x16x2048x1 b rfl rfl 64 (by rfl) (ix4 x h t j) (fun y hy => ?_) rfl
  fin_cases y
  · rfl
  · rfl
  · rfl
  · exact absurd rfl hy

theorem catV_c (a : FVec Ideal S8x16x2048x64 .f32) (b : FVec Ideal S8x16x2048x1 .f32) (c : FVec Ideal S8x16x2048x15 .f32)
    (x : Fin 8) (h : Fin 16) (t : Fin 2048) (j : Fin 15) :
    catV a b c (ix4 x h t ⟨65 + j.val, by omega⟩) = c (ix4 x h t j) := by
  refine concatenate_apply_piece (t := S8x16x2048x80) 3 _ _ _ 2 (by simp) S8x16x2048x15 c rfl rfl 65 (by rfl) (ix4 x h t j) (fun y hy => ?_) rfl
  fin_cases y
  · rfl
  · rfl
  · rfl
  · exact absurd rfl hy

/-- The half-precision copy of an array, in full precision. -/
def copy (x : FVec Ideal S8x16x2048 .f32) : FVec Ideal S8x16x2048 .f32 := extf .f32 (truncf .bf16 x bitsLt_bf16_f32) bitsLt_bf16_f32

/-- An array as one column. -/
def col (x : FVec Ideal S8x16x2048 .f32) : FVec Ideal S8x16x2048x1 .f32 := shapeCast S8x16x2048x1 x shapeCasts_S8x16x2048_S8x16x2048x1

/-- What the copy leaves over. -/
def rest (x : FVec Ideal S8x16x2048 .f32) : FVec Ideal S8x16x2048 .f32 := subf x (copy x)

/-- The queries as the host code hands them over. -/
def QE (q : FVec Ideal S8x16x2048x64 .f32) (x : FVec Ideal S8x16x2048 .f32) : FVec Ideal S8x16x2048x128 .f32 :=
  catQ (mulf q (broadcastInDim S8x16x2048x64 ![] bcast_S_S8x16x2048x64 (constant S_ .f32 0x3E000000#32)))
    (col (copy x)) (col (copy (rest x))) (col (rest (rest x)))
    (broadcastInDim S8x16x2048x3 ![] bcast_S_S8x16x2048x3 (constant S_ .f32 0x3F800000#32))
    (broadcastInDim S8x16x2048x58 ![] bcast_S_S8x16x2048x58 (constant S_ .f32 0x00000000#32))

/-- The keys as the host code hands them over. -/
def KE (k : FVec Ideal S8x16x2048x64 .f32) (x : FVec Ideal S8x16x2048 .f32) : FVec Ideal S8x16x2048x128 .f32 :=
  catK k (broadcastInDim S8x16x2048x3 ![] bcast_S_S8x16x2048x3 (constant S_ .f32 0x3F800000#32))
    (col (copy (Host.negf x))) (col (copy (rest (Host.negf x)))) (col (rest (rest (Host.negf x))))
    (broadcastInDim S8x16x2048x58 ![] bcast_S_S8x16x2048x58 (constant S_ .f32 0x00000000#32))

/-- The values as the host code hands them over. -/
def VE (v : FVec Ideal S8x16x2048x64 .f32) : FVec Ideal S8x16x2048x80 .f32 :=
  catV v (broadcastInDim S8x16x2048x1 ![] bcast_S_S8x16x2048x1 (constant S_ .f32 0x3F800000#32))
    (broadcastInDim S8x16x2048x15 ![] bcast_S_S8x16x2048x15 (constant S_ .f32 0x00000000#32))

theorem col_at (x : FVec Ideal S8x16x2048 .f32) (b : Fin 8) (h : Fin 16) (t : Fin 2048) (j : Fin 1) :
    col x (ix4 b h t j) = x (ix3 b h t) := by
  pointwise [col]

theorem copy_at (x : FVec Ideal S8x16x2048 .f32) (b : Fin 8) (h : Fin 16) (t : Fin 2048) :
    copy x (ix3 b h t) = x (ix3 b h t) := by
  pointwise [copy]

theorem rest_at (x : FVec Ideal S8x16x2048 .f32) (b : Fin 8) (h : Fin 16) (t : Fin 2048) :
    rest x (ix3 b h t) = x (ix3 b h t) - x (ix3 b h t) := by
  pointwise [rest, copy]

theorem neg_at (x : FVec Ideal S8x16x2048 .f32) (b : Fin 8) (h : Fin 16) (t : Fin 2048) :
    (Host.negf x : FVec Ideal S8x16x2048 .f32) (ix3 b h t) = - x (ix3 b h t) := by
  pointwise []

theorem ones3_at (b : Fin 8) (h : Fin 16) (t : Fin 2048) (j : Fin 3) :
    (broadcastInDim S8x16x2048x3 ![] bcast_S_S8x16x2048x3 (constant (F := Ideal) S_ .f32 0x3F800000#32) : FVec Ideal S8x16x2048x3 .f32) (ix4 b h t j) = 1 := by
  pointwise []

theorem ones1_at (b : Fin 8) (h : Fin 16) (t : Fin 2048) (j : Fin 1) :
    (broadcastInDim S8x16x2048x1 ![] bcast_S_S8x16x2048x1 (constant (F := Ideal) S_ .f32 0x3F800000#32) : FVec Ideal S8x16x2048x1 .f32) (ix4 b h t j) = 1 := by
  pointwise []

theorem zeros58_at (b : Fin 8) (h : Fin 16) (t : Fin 2048) (j : Fin 58) :
    (broadcastInDim S8x16x2048x58 ![] bcast_S_S8x16x2048x58 (constant (F := Ideal) S_ .f32 0x00000000#32) : FVec Ideal S8x16x2048x58 .f32) (ix4 b h t j) = 0 := by
  pointwise []

theorem scaled_at (q : FVec Ideal S8x16x2048x64 .f32) (b : Fin 8) (h : Fin 16) (t : Fin 2048) (j : Fin 64) :
    (mulf q (broadcastInDim S8x16x2048x64 ![] bcast_S_S8x16x2048x64 (constant (F := Ideal) S_ .f32 0x3E000000#32)) : FVec Ideal S8x16x2048x64 .f32) (ix4 b h t j)
      = q (ix4 b h t j) * scl := by
  pointwise []
  rw [eighth, scl]

/-- A sum of eighty terms, in three. -/
theorem sum80 (g : Fin 80 → EReal) : ∑ d, g d = ∑ e : Fin 64, g ⟨0 + e.val, by omega⟩
    + ((g ⟨64, by omega⟩ + g ⟨65, by omega⟩ + g ⟨66, by omega⟩ + g ⟨67, by omega⟩ + g ⟨68, by omega⟩ + g ⟨69, by omega⟩)
      + ∑ e : Fin 10, g ⟨70 + e.val, by omega⟩) := by
  refine (Fin.sum_univ_add (a := 64) (b := 16) g).trans (congrArg₂ (· + ·) (Finset.sum_congr rfl fun e _ => congrArg g (Fin.ext (by simp))) ?_)
  refine (Fin.sum_univ_add (a := 6) (b := 10) fun e => g (Fin.natAdd 64 e)).trans (congrArg₂ (· + ·) ?_ (Finset.sum_congr rfl fun e _ => congrArg g (Fin.ext ?_)))
  · rw [Fin.sum_univ_six]; rfl
  · simp; omega

theorem score (q k : Fin 64 → ℝ) (x y : ℝ) :
    (∑ e, ((k e : ℝ) : EReal) * ((q e : EReal) * scl))
      + ((1 * (x : EReal) + 1 * ((x : EReal) - x) + 1 * (((x : EReal) - x) - ((x : EReal) - x)) + (-(y : EReal)) * 1 + (-(y : EReal) - -(y : EReal)) * 1
        + ((-(y : EReal) - -(y : EReal)) - (-(y : EReal) - -(y : EReal))) * 1) + ∑ e : Fin 10, (0 : EReal) * 0)
    = (∑ e, (q e : EReal) * (k e : EReal)) * scl + ((x : EReal) - y) := by
  have h1 : (∑ e, ((k e : ℝ) : EReal) * ((q e : EReal) * scl)) = ((∑ e, k e * (q e * (1 / 8)) : ℝ) : EReal) := by
    rw [scl, coe_sum]; rfl
  have h2 : (∑ e, ((q e : ℝ) : EReal) * (k e : EReal)) = ((∑ e, q e * k e : ℝ) : EReal) := by
    rw [coe_sum]; rfl
  rw [h1, h2, scl]
  simp only [one_mul, mul_one, mul_zero, Finset.sum_const_zero, add_zero, ← EReal.coe_neg, ← EReal.coe_sub, ← EReal.coe_add, ← EReal.coe_mul]
  refine congrArg _ ?_
  rw [Finset.sum_mul]
  have : ∀ e, q e * k e * (1 / 8) = k e * (q e * (1 / 8)) := fun e => by ring
  simp only [this]
  ring

/-- The host code's queries and keys meet in the logit. -/
theorem meet (q k : FVec Ideal S8x16x2048x64 .f32) (x : FVec Ideal S8x16x2048 .f32)
    (hq : ∀ i, ∃ r : ℝ, q i = r) (hk : ∀ i, ∃ r : ℝ, k i = r) (hx : ∀ i, ∃ r : ℝ, x i = r)
    (b : Fin 8) (h : Fin 16) (t s : Fin 2048) :
    ∑ d : Fin 80, KE k x (ix4 b h s ⟨d.val, by omega⟩) * QE q x (ix4 b h t ⟨d.val, by omega⟩)
      = (∑ d, q (ix4 b h t d) * k (ix4 b h s d)) * scl + (x (ix3 b h t) - x (ix3 b h s)) := by
  choose qr hq' using hq
  choose kr hk' using hk
  choose xr hx' using hx
  rw [sum80]
  refine Eq.trans ?_ ((score (fun e => qr (ix4 b h t e)) (fun e => kr (ix4 b h s e)) (xr (ix3 b h t)) (xr (ix3 b h s))).trans ?_)
  · have Qa := fun e : Fin 64 => (catQ_a _ _ _ _ _ _ b h t e : QE q x _ = _).trans (scaled_at q b h t e)
    have Qb := (catQ_b _ _ _ _ _ _ b h t 0 : QE q x _ = _).trans ((col_at _ b h t 0).trans (copy_at x b h t))
    have Qc := (catQ_c _ _ _ _ _ _ b h t 0 : QE q x _ = _).trans ((col_at _ b h t 0).trans ((copy_at _ b h t).trans (rest_at x b h t)))
    have Qd := (catQ_d _ _ _ _ _ _ b h t 0 : QE q x _ = _).trans ((col_at _ b h t 0).trans (rest_at _ b h t))
    have Qe := fun j : Fin 3 => (catQ_e _ _ _ _ _ _ b h t j : QE q x _ = _).trans (ones3_at b h t j)
    have Qf := fun j : Fin 58 => (catQ_f _ _ _ _ _ _ b h t j : QE q x _ = _).trans (zeros58_at b h t j)
    have Ka := fun e : Fin 64 => (catK_a _ _ _ _ _ _ b h s e : KE k x _ = _)
    have Kb := fun j : Fin 3 => (catK_b _ _ _ _ _ _ b h s j : KE k x _ = _).trans (ones3_at b h s j)
    have Kc := (catK_c _ _ _ _ _ _ b h s 0 : KE k x _ = _).trans ((col_at _ b h s 0).trans ((copy_at _ b h s).trans (neg_at x b h s)))
    have Kd := (catK_d _ _ _ _ _ _ b h s 0 : KE k x _ = _).trans ((col_at _ b h s 0).trans ((copy_at _ b h s).trans (rest_at _ b h s)))
    have Ke := (catK_e _ _ _ _ _ _ b h s 0 : KE k x _ = _).trans ((col_at _ b h s 0).trans (rest_at _ b h s))
    have Kf := fun j : Fin 58 => (catK_f _ _ _ _ _ _ b h s j : KE k x _ = _).trans (zeros58_at b h s j)
    rw [rest_at] at Qd Ke
    rw [neg_at] at Kd Ke
    rw [hx'] at Qb Qc Qd Kc Kd Ke
    refine congrArg₂ (· + ·) (Finset.sum_congr rfl fun e _ => congrArg₂ (· * ·) ((Ka e).trans (hk' _)) ((Qa e).trans (congrArg (· * scl) (hq' _)))) ?_
    refine congrArg₂ (· + ·) ?_ (Finset.sum_congr rfl fun e _ => congrArg₂ (· * ·) (Kf ⟨e.val, by omega⟩) (Qf ⟨e.val, by omega⟩))
    refine congrArg₂ (· + ·) (congrArg₂ (· + ·) (congrArg₂ (· + ·) (congrArg₂ (· + ·) (congrArg₂ (· + ·) ?_ ?_) ?_) ?_) ?_) ?_
    · exact congrArg₂ (· * ·) (Kb 0) Qb
    · exact congrArg₂ (· * ·) (Kb 1) Qc
    · exact congrArg₂ (· * ·) (Kb 2) Qd
    · exact congrArg₂ (· * ·) Kc (Qe 0)
    · exact congrArg₂ (· * ·) Kd (Qe 1)
    · exact congrArg₂ (· * ·) Ke (Qe 2)
  · simp only [← hq', ← hk', ← hx']

theorem VE_low (v : FVec Ideal S8x16x2048x64 .f32) (b : Fin 8) (h : Fin 16) (s : Fin 2048) (d : Fin 64) :
    VE v (ix4 b h s ⟨d.val, by omega⟩) = v (ix4 b h s d) := by
  have e : (⟨d.val, by omega⟩ : Fin 80) = ⟨0 + d.val, by omega⟩ := Fin.ext (by simp)
  rw [e]
  exact catV_a _ _ _ b h s d

theorem VE_one (v : FVec Ideal S8x16x2048x64 .f32) (b : Fin 8) (h : Fin 16) (s : Fin 2048) : VE v (ix4 b h s 64) = 1 :=
  (catV_b _ _ _ b h s 0 : VE v _ = _).trans (ones1_at b h s 0)

end Cert.KernelIdeal.Fox

end
-- ==== Proof.Fox.Entry.lean ====
module

public import proofs.«01_k».proof.Proof.Fox.Host
public import proofs.«01_k».proof.Proof.Gen.KernelIdeal.Value
public import Idealize.ShloMosaic.Lib.Pipeline.ValueKit
public import Idealize.ShloMosaic.Lib.StableHlo.RunRead

@[expose] public section

set_option maxRecDepth 16384

noncomputable section

/-! The arrays the launch finds, from the arguments. -/

namespace Cert.KernelIdeal.Fox

open Cert.KernelIdeal Cert.KernelIdeal.Gen Idealize.ShloMosaic Idealize.ShloMosaic.TcCoe Idealize.SL.Sem
open Cert.Fox Facts

variable (m : (ℓ : Loc nD τ sig) → Buf (Elt Ideal) ℓ)

theorem keys33 (c : Dev nD) : (V m c main_v33 : FVec Ideal S8x16x2048x128 .bf16)
      = truncf .bf16 (KE (m ⟨c, main_arg1⟩) (m ⟨c, main_arg3⟩)) bitsLt_bf16_f32 := by
  refine (StableHlo.after_last_write (i := 38) [main_v34] (by rfl) (by rfl) (by decide) _).trans ?_
  rw [StableHlo.unary_result]
  refine congrArg (fun x => (truncf .bf16 (F := Ideal) (φ := .f32) (s := S8x16x2048x128) x bitsLt_bf16_f32)) ?_
  refine (StableHlo.upto_last_write (i := 29) [main_cst_2, main_v27, main_cst_3, main_v28, main_v29, main_v30, main_v31, main_v32] (by rfl) (by rfl) (by decide) _).trans ?_
  rw [StableHlo.nary_result]
  show catK (StableHlo.upto hostOps0 (fun b => m (c, b)) 29 main_arg1) (StableHlo.upto hostOps0 (fun b => m (c, b)) 29 main_v6)
    (StableHlo.upto hostOps0 (fun b => m (c, b)) 29 main_v23) (StableHlo.upto hostOps0 (fun b => m (c, b)) 29 main_v24)
    (StableHlo.upto hostOps0 (fun b => m (c, b)) 29 main_v25) (StableHlo.upto hostOps0 (fun b => m (c, b)) 29 main_v7) = _
  after_reads_simp
  rfl

theorem queries32 (c : Dev nD) : (V m c main_v32 : FVec Ideal S8x16x8x128x256 .bf16)
      = truncf .bf16 (transpose S8x16x8x128x256 [0, 1, 2, 4, 3] (shapeCast S8x16x8x256x128 (QE (m ⟨c, main_arg0⟩) (m ⟨c, main_arg3⟩))
          shapeCasts_S8x16x2048x128_S8x16x8x256x128) transposes_S8x16x8x256x128_S8x16x8x128x256_0_1_2_4_3) bitsLt_bf16_f32 := by
  refine (StableHlo.after_last_write (i := 37) [main_v33, main_v34] (by rfl) (by rfl) (by decide) _).trans ?_
  rw [StableHlo.unary_result]
  refine congrArg (fun x => (truncf .bf16 (F := Ideal) (φ := .f32) (s := S8x16x8x128x256) x bitsLt_bf16_f32)) ?_
  refine (StableHlo.upto_last_write (i := 18) [main_v16, main_v17, main_v18, main_v19, main_v20, main_v21, main_v22, main_v23, main_v24,
    main_v25, main_v26, main_cst_2, main_v27, main_cst_3, main_v28, main_v29, main_v30, main_v31] (by rfl) (by rfl) (by decide) _).trans ?_
  rw [StableHlo.unary_result]
  refine congrArg (fun x : FVec Ideal S8x16x8x256x128 .f32 => transpose S8x16x8x128x256 [0, 1, 2, 4, 3] x transposes_S8x16x8x256x128_S8x16x8x128x256_0_1_2_4_3) ?_
  refine (StableHlo.upto_last_write (i := 17) [] (by rfl) (by rfl) (by decide) _).trans ?_
  rw [StableHlo.reshape_result]
  refine congrArg (fun x : FVec Ideal S8x16x2048x128 .f32 => shapeCast S8x16x8x256x128 x shapeCasts_S8x16x2048x128_S8x16x8x256x128) ?_
  refine (StableHlo.upto_last_write (i := 16) [] (by rfl) (by rfl) (by decide) _).trans ?_
  rw [StableHlo.nary_result]
  show catQ (StableHlo.upto hostOps0 (fun b => m (c, b)) 16 main_v9) (StableHlo.upto hostOps0 (fun b => m (c, b)) 16 main_v10) (StableHlo.upto hostOps0 (fun b => m (c, b)) 16 main_v11)
    (StableHlo.upto hostOps0 (fun b => m (c, b)) 16 main_v12) (StableHlo.upto hostOps0 (fun b => m (c, b)) 16 main_v6) (StableHlo.upto hostOps0 (fun b => m (c, b)) 16 main_v7) = _
  after_reads_simp
  rfl

theorem values34 (c : Dev nD) : (V m c main_v34 : FVec Ideal S8x16x8x80x256 .bf16)
      = truncf .bf16 (transpose S8x16x8x80x256 [0, 1, 2, 4, 3] (shapeCast S8x16x8x256x80 (VE (m ⟨c, main_arg2⟩))
          shapeCasts_S8x16x2048x80_S8x16x8x256x80) transposes_S8x16x8x256x80_S8x16x8x80x256_0_1_2_4_3) bitsLt_bf16_f32 := by
  refine (StableHlo.after_last_write (i := 39) [] (by rfl) (by rfl) (by decide) _).trans ?_
  rw [StableHlo.unary_result]
  refine congrArg (fun x => (truncf .bf16 (F := Ideal) (φ := .f32) (s := S8x16x8x80x256) x bitsLt_bf16_f32)) ?_
  refine (StableHlo.upto_last_write (i := 36) [main_v32, main_v33] (by rfl) (by rfl) (by decide) _).trans ?_
  rw [StableHlo.unary_result]
  refine congrArg (fun x : FVec Ideal S8x16x8x256x80 .f32 => transpose S8x16x8x80x256 [0, 1, 2, 4, 3] x transposes_S8x16x8x256x80_S8x16x8x80x256_0_1_2_4_3) ?_
  refine (StableHlo.upto_last_write (i := 35) [] (by rfl) (by rfl) (by decide) _).trans ?_
  rw [StableHlo.reshape_result]
  refine congrArg (fun x : FVec Ideal S8x16x2048x80 .f32 => shapeCast S8x16x8x256x80 x shapeCasts_S8x16x2048x80_S8x16x8x256x80) ?_
  refine (StableHlo.upto_last_write (i := 34) [] (by rfl) (by rfl) (by decide) _).trans ?_
  rw [StableHlo.nary_result]
  show catV (StableHlo.upto hostOps0 (fun b => m (c, b)) 34 main_arg2) (StableHlo.upto hostOps0 (fun b => m (c, b)) 34 main_v27) (StableHlo.upto hostOps0 (fun b => m (c, b)) 34 main_v28) = _
  after_reads_simp
  rfl

theorem lanes (x : FVec Ideal S8x16x2048x128 .f32) (b : Fin 8) (h : Fin 16) (j : Fin 8) (e : Fin 128) (κ : Fin 256) :
    (truncf .bf16 (transpose S8x16x8x128x256 [0, 1, 2, 4, 3] (shapeCast S8x16x8x256x128 x
      shapeCasts_S8x16x2048x128_S8x16x8x256x128) transposes_S8x16x8x256x128_S8x16x8x128x256_0_1_2_4_3) bitsLt_bf16_f32 : FVec Ideal S8x16x8x128x256 .bf16)
        (ix5 b h j e κ) = x (ix4 b h ⟨j.val * 256 + κ.val, by omega⟩ e) := by
  pointwise []

theorem lanes' (x : FVec Ideal S8x16x2048x80 .f32) (b : Fin 8) (h : Fin 16) (j : Fin 8) (d : Fin 80) (κ : Fin 256) :
    (truncf .bf16 (transpose S8x16x8x80x256 [0, 1, 2, 4, 3] (shapeCast S8x16x8x256x80 x
      shapeCasts_S8x16x2048x80_S8x16x8x256x80) transposes_S8x16x8x256x80_S8x16x8x80x256_0_1_2_4_3) bitsLt_bf16_f32 : FVec Ideal S8x16x8x80x256 .bf16)
        (ix5 b h j d κ) = x (ix4 b h ⟨j.val * 256 + κ.val, by omega⟩ d) := by
  pointwise []

theorem V32 (c : Dev nD) (b : Fin 8) (h : Fin 16) (j : Fin 8) (e : Fin 128) (κ : Fin 256) :
    (V m c main_v32 : FVec Ideal S8x16x8x128x256 .bf16) (ix5 b h j e κ)
      = QE (m ⟨c, main_arg0⟩) (m ⟨c, main_arg3⟩) (ix4 b h ⟨j.val * 256 + κ.val, by omega⟩ e) :=
  (congrFun (queries32 m c) _).trans (lanes _ b h j e κ)

theorem V33 (c : Dev nD) (b : Fin 8) (h : Fin 16) (s : Fin 2048) (e : Fin 128) :
    (V m c main_v33 : FVec Ideal S8x16x2048x128 .bf16) (ix4 b h s e) = KE (m ⟨c, main_arg1⟩) (m ⟨c, main_arg3⟩) (ix4 b h s e) :=
  congrFun (keys33 m c) _

theorem V34 (c : Dev nD) (b : Fin 8) (h : Fin 16) (j : Fin 8) (d : Fin 80) (κ : Fin 256) :
    (V m c main_v34 : FVec Ideal S8x16x8x80x256 .bf16) (ix5 b h j d κ)
      = VE (m ⟨c, main_arg2⟩) (ix4 b h ⟨j.val * 256 + κ.val, by omega⟩ d) :=
  (congrFun (values34 m c) _).trans (lanes' _ b h j d κ)

end Cert.KernelIdeal.Fox

end
-- ==== Proof.Fox.Final.lean ====
module

public import proofs.«01_k».proof.Proof.Fox.Out
public import proofs.«01_k».proof.Proof.Fox.Answer
public import proofs.«01_k».proof.Proof.Fox.Entry

@[expose] public section

set_option maxRecDepth 16384

noncomputable section

/-! The attention's result array: the kernel's blocks are the reference's rows. -/

namespace Cert.KernelIdeal.Fox

open Cert.KernelIdeal Cert.KernelIdeal.Gen Idealize.ShloMosaic Idealize.ShloMosaic.TcCoe Idealize.SL.Sem
open Idealize.ShloMosaic.Pipeline (Dat)
open Cert.Fox

variable (m : (ℓ : Loc nD τ sig) → Buf (Elt Ideal) ℓ)

theorem idx : ∀ t : Fin cfg0.N, win0_0.index t = ![t.val / 8, 0, t.val % 8, 0, 0] ∧ win0_1.index t = ![t.val / 8, 0, 0, 0]
    ∧ win0_2.index t = ![t.val / 8, 0, 0, 0, 0] ∧ win0_3.index t = ![t.val / 8, t.val % 8, 0] ∧ (grid0.coords t 2).val = t.val % 8 :=
  (by decide +kernel : ∀ t : Fin grid0.N, _)

theorem lt64 (t : Fin cfg0.N) : t.val < 64 := t.isLt

theorem block0 (A : FVec Ideal S8x16x8x128x256 .bf16) (t : Fin cfg0.N) (h : Fin 16) (e : Fin 128) (κ : Fin 256) :
    (((cfg0.win 0).blk t).view.read (Elt Ideal) A : FVec Ideal S1x16x1x128x256 .bf16) (ix5 0 h 0 e κ)
      = A (ix5 ⟨t.val / 8, by have := lt64 t; omega⟩ h ⟨t.val % 8, by omega⟩ e κ) := by
  blk_point [idx t]

theorem block1 (A : FVec Ideal S8x16x2048x128 .bf16) (t : Fin cfg0.N) (h : Fin 16) (s : Fin 2048) (e : Fin 128) :
    (((cfg0.win 1).blk t).view.read (Elt Ideal) A : FVec Ideal S1x16x2048x128 .bf16) (ix4 0 h s e)
      = A (ix4 ⟨t.val / 8, by have := lt64 t; omega⟩ h s e) := by
  blk_point [idx t]

theorem block2 (A : FVec Ideal S8x16x8x80x256 .bf16) (t : Fin cfg0.N) (h : Fin 16) (j : Fin 8) (d : Fin 80) (κ : Fin 256) :
    (((cfg0.win 2).blk t).view.read (Elt Ideal) A : FVec Ideal S1x16x8x80x256 .bf16) (ix5 0 h j d κ)
      = A (ix5 ⟨t.val / 8, by have := lt64 t; omega⟩ h j d κ) := by
  blk_point [idx t]

section Point

variable (c : Dev nD) (t : Fin cfg0.N)

/-- The batch of a grid point. -/
def batch : Fin 8 := ⟨t.val / 8, by have := lt64 t; omega⟩

/-- The query at a place of a grid point's tile. -/
def place (a : Fin 256) : Fin 2048 := ⟨t.val % 8 * 256 + a.val, by omega⟩

theorem iblk0 (h : Fin 16) (e : Fin 128) (κ : Fin 256) : (iblk m c 0 t : FVec Ideal S1x16x1x128x256 .bf16) (ix5 0 h 0 e κ)
    = QE (m ⟨c, main_arg0⟩) (m ⟨c, main_arg3⟩) (ix4 (batch t) h (place t κ) e) :=
  (block0 (V m c (Pipeline.arrRef spec0 0)) t h e κ).trans (V32 m c _ h ⟨t.val % 8, by omega⟩ e κ)

theorem iblk1 (h : Fin 16) (s : Fin 2048) (e : Fin 128) : (iblk m c 1 t : FVec Ideal S1x16x2048x128 .bf16) (ix4 0 h s e)
    = KE (m ⟨c, main_arg1⟩) (m ⟨c, main_arg3⟩) (ix4 (batch t) h s e) :=
  (block1 (V m c (Pipeline.arrRef spec0 1)) t h s e).trans (V33 m c _ h s e)

theorem iblk2 (h : Fin 16) (j : Fin 8) (d : Fin 80) (κ : Fin 256) : (iblk m c 2 t : FVec Ideal S1x16x8x80x256 .bf16) (ix5 0 h j d κ)
    = VE (m ⟨c, main_arg2⟩) (ix4 (batch t) h ⟨j.val * 256 + κ.val, by omega⟩ d) :=
  (block2 (V m c (Pipeline.arrRef spec0 2)) t h j d κ).trans (V34 m c _ h j d κ)

variable (hq : ∀ i, ∃ r : ℝ, (m ⟨c, main_arg0⟩ : FVec Ideal S8x16x2048x64 .f32) i = (r : EReal))
  (hk : ∀ i, ∃ r : ℝ, (m ⟨c, main_arg1⟩ : FVec Ideal S8x16x2048x64 .f32) i = (r : EReal))
  (hc : ∀ i, ∃ r : ℝ, (m ⟨c, main_arg3⟩ : FVec Ideal S8x16x2048 .f32) i = (r : EReal))

include hq hk hc in
/-- The scores a grid point works on are the reference's logits. -/
theorem X_eq (h : Fin 16) (a : Fin 256) (j : ℕ) (κ : Fin 256) :
    X (grid0.coords t) (iblk m c 0 t) (iblk m c 1 t) h a j κ
      = Cert.ReferenceIdeal.Fox.tiled (m ⟨c, main_arg0⟩) (m ⟨c, main_arg1⟩) (m ⟨c, main_arg3⟩) (batch t) h (place t a) j κ := by
  have e : dots (iblk m c 0 t) (iblk m c 1 t) h a j κ = _ :=
    (Finset.sum_congr rfl fun d _ => congrArg₂ (fun x y : EReal => x * y) (iblk1 m c t h _ _) (iblk0 m c t h _ a)).trans
      (meet (m ⟨c, main_arg0⟩) (m ⟨c, main_arg1⟩) (m ⟨c, main_arg3⟩) hq hk hc (batch t) h (place t a)
        ⟨(j * 256 + κ.val) % 2048, by omega⟩)
  rw [X, e, (idx t).2.2.2.2]
  rfl

theorem rows_low (h : Fin 16) (d : Fin 64) (j : ℕ) (κ : Fin 256) : rows (iblk m c 2 t) h ⟨d.val, by omega⟩ j κ
    = (m ⟨c, main_arg2⟩ : FVec Ideal S8x16x2048x64 .f32) (ix4 (batch t) h ⟨j % 8 * 256 + κ.val, by omega⟩ d) :=
  (iblk2 m c t h _ _ κ).trans (VE_low _ _ _ _ d)

theorem rows_one (h : Fin 16) (j : ℕ) (κ : Fin 256) : rows (iblk m c 2 t) h 64 j κ = 1 :=
  (iblk2 m c t h _ _ κ).trans (VE_one _ _ _ _)

/-- The reference's result at the kernel's arguments. -/
def ANS : FVec Ideal S8x2048x1024 .bf16 :=
  Cert.ReferenceIdeal.Fox.RES (m ⟨c, main_arg2⟩)
    (Cert.ReferenceIdeal.Fox.RAW (Cert.ReferenceIdeal.Fox.LGT (m ⟨c, main_arg0⟩) (m ⟨c, main_arg1⟩) (m ⟨c, main_arg3⟩))
      (Cert.ReferenceIdeal.Fox.TOP (Cert.ReferenceIdeal.Fox.LGT (m ⟨c, main_arg0⟩) (m ⟨c, main_arg1⟩) (m ⟨c, main_arg3⟩))))

include hq hk hc in
/-- A grid point's block is the reference's rows there. -/
theorem point (a : Fin 256) (y : Fin 1024) : outsAt0 m c t (ix3 0 a y) = ANS m c (ix3 (batch t) (place t a) y) := by
  have hX : ∀ h, (fun j κ => LG * X (grid0.coords t) (iblk m c 0 t) (iblk m c 1 t) h a j κ) = fun j κ => LG *
      Cert.ReferenceIdeal.Fox.tiled (m ⟨c, main_arg0⟩) (m ⟨c, main_arg1⟩) (m ⟨c, main_arg3⟩) (batch t) h (place t a) j κ :=
    fun h => funext fun j => funext fun κ => congrArg (LG * ·) (X_eq m c t hq hk hc h a j κ)
  have h1 : ∀ h, rows (iblk m c 2 t) h 64 = fun _ _ => 1 := fun h => funext fun j => funext fun κ => rows_one m c t h j κ
  refine (out_at c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) a y).trans ?_
  rw [cell, cell, hX, h1, (idx t).2.2.2.2]
  refine (Cert.ReferenceIdeal.Fox.attend (m ⟨c, main_arg0⟩) (m ⟨c, main_arg1⟩) (m ⟨c, main_arg2⟩) (m ⟨c, main_arg3⟩) hq hk hc
    (batch t) ⟨y.val / 64, by omega⟩ (place t a) (t.val % 8) (by omega) a rfl ⟨y.val % 64, by omega⟩ _ fun j hj κ => ?_).trans ?_
  · refine (rows_low m c t _ ⟨y.val % 64, by omega⟩ j κ).trans (congrArg _ ?_)
    have e : (⟨j % 8 * 256 + κ.val, by omega⟩ : Fin 2048) = ⟨j * 256 + κ.val, by omega⟩ :=
      Fin.ext (by show j % 8 * 256 + κ.val = j * 256 + κ.val; rw [Nat.mod_eq_of_lt hj])
    rw [e]
  · exact (Cert.ReferenceIdeal.Fox.RES_at _ _ (batch t) (place t a) y).symm

end Point

theorem block3 (A : FVec Ideal S8x2048x1024 .bf16) (t : Fin cfg0.N) (a : Fin 256) (y : Fin 1024) :
    (((cfg0.win 3).blk t).view.read (Elt Ideal) A : FVec Ideal S1x256x1024 .bf16) (ix3 0 a y) = A (ix3 (batch t) (place t a) y) := by
  unfold batch place
  blk_point [idx t]

end Cert.KernelIdeal.Fox

end
-- ==== Proof.Fox.Whole.lean ====
module

public import proofs.«01_k».proof.Proof.Fox.Final

@[expose] public section

set_option maxRecDepth 16384

noncomputable section

/-! The attention's result array. -/

namespace Cert.KernelIdeal.Fox

open Cert.KernelIdeal Cert.KernelIdeal.Gen Idealize.ShloMosaic Idealize.ShloMosaic.TcCoe Idealize.SL.Sem
open Idealize.ShloMosaic.Pipeline (Dat)
open Cert.Fox

variable (m : (ℓ : Loc nD τ sig) → Buf (Elt Ideal) ℓ)

/-- An array that holds at each grid point what the point leaves, read by blocks. -/
theorem by_blocks (A : FVec Ideal S8x2048x1024 .bf16) (o : Fin cfg0.N → FVec Ideal S1x256x1024 .bf16)
    (ho : ∀ t a y, o t (ix3 0 a y) = A (ix3 (batch t) (place t a) y)) (t : Fin cfg0.N) (y : S1x256x1024.Idx) :
    o t y = (((cfg0.win 3).blk t).view.read (Elt Ideal) A : FVec Ideal S1x256x1024 .bf16) y := by
  idx_vars y
  obtain rfl : y0 = 0 := Subsingleton.elim _ _
  exact (ho t y1 y2).trans (block3 A t y1 y2).symm

variable (c : Dev nD)

/-- The launch's result array, from what each grid point leaves. -/
theorem whole (A : FVec Ideal S8x2048x1024 .bf16)
    (ho : ∀ t a y, outsAt0 m c t (ix3 0 a y) = A (ix3 (batch t) (place t a) y)) : (dats m 0 c).arrAt 3 (cfgs 0).N = A := by
  refine (dats m 0 c).arrAt_eq_of_covers 3 _ (by decide +kernel) fun t _ y => ?_
  blk_simp
  rw [after0_3]
  exact by_blocks A (fun t => outsAt0 m c t) ho t y

/-- Of real queries, keys and decays the launch's result array is the reference's. -/
theorem final (hq : ∀ i, ∃ r : ℝ, (m ⟨c, main_arg0⟩ : FVec Ideal S8x16x2048x64 .f32) i = (r : EReal))
    (hk : ∀ i, ∃ r : ℝ, (m ⟨c, main_arg1⟩ : FVec Ideal S8x16x2048x64 .f32) i = (r : EReal))
    (hc : ∀ i, ∃ r : ℝ, (m ⟨c, main_arg3⟩ : FVec Ideal S8x16x2048 .f32) i = (r : EReal)) :
    (dats m 0 c).arrAt 3 (cfgs 0).N = ANS m c :=
  whole m c (ANS m c) fun t a y => point m c t hq hk hc a y

end Cert.KernelIdeal.Fox

end
-- ==== Proof.Fox.Finite.lean ====
module

public import proofs.«01_k».proof.Pre_finite_logits
public import Idealize.ShloMosaic.Lib.IdealHost
public import Idealize.ShloMosaic.Lib.Pipeline.ValueKit

@[expose] public section

set_option maxRecDepth 16384

noncomputable section

/-! What the precondition says of the arrays: their entries are real numbers. -/

namespace Cert.Pre_finite_logits

open Idealize.ShloMosaic

/-- The shape relations the precondition's operations take. -/
theorem facts : Facts where
  bcast_S_S8x16x2048x64 := by decide
  bcast_S8x16x2048_S8x16x2048x1_0_1_2 := by decide
  bcast_S_S8x16x2048x1 := by decide
  bcast_S8x16x2048x1_S8x16x2048x64_0_1_2_3 := by decide

variable [Facts]
open Facts

theorem top_word : Ideal.ofBits FTy.f32 0x7F800000#32 = ⊤ := by
  simp [Ideal.ofBits, Ideal.ieee]

/-- A number of absolute value below infinity is a real. -/
theorem real_of_abs (x : EReal) (h : BitVec.ofBool (decide (FloatOps.absf (F := Ideal) (φ := .f32) x < Ideal.ofBits FTy.f32 0x7F800000#32)) = 1#1) :
    ∃ r : ℝ, x = r := by
  have h' : max x (-x) < ⊤ := by
    rw [top_word] at h
    by_contra hn
    have : decide (FloatOps.absf (F := Ideal) (φ := .f32) x < ⊤) = false := decide_eq_false hn
    rw [this] at h
    exact absurd h (by decide)
  induction x using EReal.rec with
  | bot => simp at h'
  | top => simp at h'
  | coe r => exact ⟨r, rfl⟩

theorem and_one (a b : BitVec 1) (h : IntOp.andi a b = 1#1) : a = 1#1 ∧ b = 1#1 := by
  revert a b
  decide

/-- At an index the precondition bounds a query's entry, a key's and a decay. -/
theorem reals (q k v : FVec Ideal S8x16x2048x64 .f32) (cc : FVec Ideal S8x16x2048 .f32) (e : fn q k v cc = fun _ => 1#1)
    (b : Fin 8) (h : Fin 16) (t : Fin 2048) (d : Fin 64) :
    ((∃ r : ℝ, q (ix4 b h t d) = r) ∧ ∃ r : ℝ, k (ix4 b h t d) = r) ∧ ∃ r : ℝ, cc (ix3 b h t) = r := by
  have g : fn q k v cc (ix4 b h t d) = IntOp.andi
      (IntOp.andi (BitVec.ofBool (decide (FloatOps.absf (F := Ideal) (φ := .f32) (q (ix4 b h t d)) < Ideal.ofBits FTy.f32 0x7F800000#32)))
        (BitVec.ofBool (decide (FloatOps.absf (F := Ideal) (φ := .f32) (k (ix4 b h t d)) < Ideal.ofBits FTy.f32 0x7F800000#32))))
      (BitVec.ofBool (decide (FloatOps.absf (F := Ideal) (φ := .f32) (cc (ix3 b h t)) < Ideal.ofBits FTy.f32 0x7F800000#32))) := by
    pointwise [fn]
  rw [e] at g
  obtain ⟨g1, g2⟩ := and_one _ _ g.symm
  obtain ⟨g3, g4⟩ := and_one _ _ g1
  exact ⟨⟨real_of_abs _ g3, real_of_abs _ g4⟩, real_of_abs _ g2⟩

/-- Under the precondition queries, keys and decays are real. -/
theorem finite (q k v : FVec Ideal S8x16x2048x64 .f32) (cc : FVec Ideal S8x16x2048 .f32) (e : fn q k v cc = fun _ => 1#1) :
    (∀ i, ∃ r : ℝ, q i = r) ∧ (∀ i, ∃ r : ℝ, k i = r) ∧ ∀ i, ∃ r : ℝ, cc i = r := by
  refine ⟨fun i => ?_, fun i => ?_, fun i => ?_⟩
  · idx_vars i
    exact (reals q k v cc e _ _ _ _).1.1
  · idx_vars i
    exact (reals q k v cc e _ _ _ _).1.2
  · idx_vars i
    exact (reals q k v cc e _ _ _ 0).2

end Cert.Pre_finite_logits

end
-- ==== Proof.Fox.Result.lean ====
module

public import proofs.«01_k».proof.Proof.Fox.Reference

@[expose] public section

set_option maxRecDepth 16384

noncomputable section

/-! The reference's result array by its named parts. -/

namespace Cert.ReferenceIdeal.Fox

open Cert.ReferenceIdeal Cert.ReferenceIdeal.Gen Idealize.ShloMosaic Idealize.ShloMosaic.TcCoe Idealize.SL.Sem

theorem result_eq (m : (ℓ : Loc nD τ sig) → Buf (Elt Ideal) ℓ) (c : Dev nD) (q k v : FVec Ideal S8x16x2048x64 .f32)
    (cc : FVec Ideal S8x16x2048 .f32) (h0 : m ((c.tc : Thread nD τ).loc main_arg0) = q) (h1 : m ((c.tc : Thread nD τ).loc main_arg1) = k)
    (h2 : m ((c.tc : Thread nD τ).loc main_arg2) = v) (h3 : m ((c.tc : Thread nD τ).loc main_arg3) = cc) :
    Cert.ReferenceIdeal.Value.res_main_v31 m c = RES v (RAW (LGT q k cc) (TOP (LGT q k cc))) := by
  subst h0 h1 h2 h3
  unfold Cert.ReferenceIdeal.Value.res_main_v31 RES RAW TOP LGT
  rfl

end Cert.ReferenceIdeal.Fox

end
-- ==== Proof.Fox.Claims.lean ====
module

public import proofs.«01_k».proof.Defs
public import proofs.«01_k».proof.Proof.Fox.Frames
public import proofs.«01_k».proof.Proof.Fox.Whole
public import proofs.«01_k».proof.Proof.Fox.Finite
public import proofs.«01_k».proof.Proof.Fox.Result
public import Idealize.ShloMosaic.Lib.Claim

@[expose] public section

set_option maxRecDepth 16384

noncomputable section

/-! The value claim about the attention, and its claims under the precondition. -/

namespace Cert.Fox

open Idealize.ShloMosaic Idealize.SL.Sem

attribute [local instance] Cert.Pre_finite_logits.facts

/-- The reference's array is the one the kernel's launch is measured against. -/
theorem answer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v31 m' c = Cert.KernelIdeal.Fox.ANS m c :=
  Cert.ReferenceIdeal.Fox.result_eq m' c _ _ _ _ h0 h1 h2 h3

/-- Under the precondition the two results are one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_finite_logits m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v31 m' c
      = (Cert.KernelIdeal.Gen.dats m 0 c).arrAt 3 (Cert.KernelIdeal.cfgs 0).N := by
  obtain ⟨hq, hk, hc⟩ := Cert.Pre_finite_logits.finite _ _ _ _ (hpre c)
  exact (answer m m' c h0 h1 h2 h3).trans (Cert.KernelIdeal.Fox.final m c hq hk hc).symm

/-- From equal arguments that meet the precondition the kernel and the reference both run and end with equal results. -/
theorem algebraic : Cert.algebraic_KernelIdeal_ReferenceIdeal_pre_finite_logits := by
  pair_intro
  · run_from Cert.KernelIdeal.Gen.run_main m g
  · run_from Cert.ReferenceIdeal.Value.run m' g'
    obtain ⟨h0, h1, h2, h3⟩ := hagree c
    exact result_eq m m' c hpre h0 h1 h2 h3

/-- The frames hold of every initial memory, so of those that meet the precondition. -/
theorem frame_ideal_pre : Cert.quiescent_KernelIdeal_pre_finite_logits := fun m g _ => frame_ideal m g trivial

theorem frame_reference_pre : Cert.quiescent_ReferenceIdeal_pre_finite_logits := fun m g _ => frame_reference m g trivial

end Cert.Fox

end
-- ==== Proof.Mlp.Spec.lean ====
module

public import Idealize.ShloMosaic.Lib.Pointwise
public import Idealize.ShloMosaic.Lib.Pipeline.ValueKit

@[expose] public section

set_option maxRecDepth 16384

noncomputable section

/-! The layer's output stage as a function of one row: the residual with the projected mixer output added, its RMS
norm, and the squared-ReLU MLP added to it. Both programs are shown to compute this function at every row. -/

namespace Cert.Mlp

open Idealize.ShloMosaic

/-- The residual row with the projected mixer row added, at column `d`. -/
def resid (x a : Fin 1024 → EReal) (W : Fin 1024 → Fin 1024 → EReal) (d : Fin 1024) : EReal :=
  x d + ∑ k : Fin 1024, a k * W k d

/-- The RMS norm of a row `y` with gain `g`, at column `d`. -/
def normed (y g : Fin 1024 → EReal) (d : Fin 1024) : EReal :=
  y d * Ideal.rsqrt (Ideal.div (∑ k : Fin 1024, y k * y k) (Ideal.ofBits .f32 0x44800000#32)
    + Ideal.ofBits .f32 0x358637BD#32) * g d

/-- One hidden unit of the MLP: the square of the positive part of a dot product. -/
def unitOut (h u : Fin 1024 → EReal) : EReal :=
  max (∑ k : Fin 1024, h k * u k) 0 * max (∑ k : Fin 1024, h k * u k) 0

/-- The whole stage at column `d` of one row. -/
def rowOut (x a : Fin 1024 → EReal) (W : Fin 1024 → Fin 1024 → EReal) (g : Fin 1024 → EReal)
    (U : Fin 1024 → Fin 4096 → EReal) (V : Fin 4096 → Fin 1024 → EReal) (d : Fin 1024) : EReal :=
  resid x a W d + ∑ f : Fin 4096, unitOut (normed (resid x a W) g) (fun k => U k f) * V f d

/-- Adding the sums over the four tiles of 1024 hidden units in order is adding the sum over all 4096. -/
theorem add_tiles (y : EReal) (F : Fin 4096 → EReal) :
    y + (∑ t : Fin 1024, F ⟨t, by omega⟩) + (∑ t : Fin 1024, F ⟨1024 + t, by omega⟩)
      + (∑ t : Fin 1024, F ⟨2048 + t, by omega⟩) + (∑ t : Fin 1024, F ⟨3072 + t, by omega⟩)
      = y + ∑ f : Fin 4096, F f := by
  rw [Fin.sum_univ_tiles 4 1024 rfl F, Fin.sum_univ_four]
  simp only [Fin.val_zero, Fin.val_one, Fin.val_two, show ((3 : Fin 4) : ℕ) = 3 from rfl, Nat.zero_mul, Nat.one_mul,
    Nat.zero_add, Nat.reduceMul, add_assoc]

end Cert.Mlp

end
-- ==== Proof.Mlp.Kernel.lean ====
module

public import proofs.«01_k».proof.Proof.Mlp.Spec
public import proofs.«01_k».proof.Proof.Gen.Kernel2Ideal.Value

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pipeline (Dat)
open Cert.Mlp

variable (m : (ℓ : Loc nD τ sig) → Buf (Elt Ideal) ℓ)

/-- The first payload at `(r, d)`: the residual. -/
theorem pay1_at (x0 : FVec Ideal S512x1024 .f32) (x1 : FVec Ideal S512x1024 .bf16) (x2 : FVec Ideal S1024x1024 .bf16)
    (r : Fin 512) (d : Fin 1024) :
    k0_pay1 (F := Ideal) x0 x1 x2 (ix2 r d)
      = resid (fun d => x0 (ix2 r d)) (fun k => x1 (ix2 r k)) (fun k d => x2 (ix2 k d)) d := by
  pointwise [k0_pay1, resid]

/-- The second payload at `(r, d)`: the normed row. -/
theorem pay2_at (x0 : FVec Ideal S512x1024 .f32) (x1 : FVec Ideal S512x1024 .bf16) (x2 : FVec Ideal S1024x1024 .bf16)
    (x3 : FVec Ideal S1x1024 .f32) (r : Fin 512) (d : Fin 1024) :
    k0_pay2 (F := Ideal) x0 x1 x2 x3 (ix2 r d)
      = normed (resid (fun d => x0 (ix2 r d)) (fun k => x1 (ix2 r k)) (fun k d => x2 (ix2 k d)))
          (fun d => x3 (ix2 0 d)) d := by
  pointwise [k0_pay2, pay1_at, normed]

theorem pay3_at (x0 : FVec Ideal S512x1024 .f32) (x1 : FVec Ideal S512x1024 .bf16) (x2 : FVec Ideal S1024x1024 .bf16)
    (x3 : FVec Ideal S1x1024 .f32) (u v : FVec Ideal S1x1024x1024 .bf16) (r : Fin 512) (d : Fin 1024) :
    k0_pay3 (F := Ideal) x0 x1 x2 x3 u v (ix2 r d)
      = resid (fun d => x0 (ix2 r d)) (fun k => x1 (ix2 r k)) (fun k d => x2 (ix2 k d)) d
        + ∑ f : Fin 1024, unitOut (fun k => k0_pay2 (F := Ideal) x0 x1 x2 x3 (ix2 r k)) (fun k => u (ix3 0 k f))
            * v (ix3 0 f d) := by
  pointwise [k0_pay3, pay1_at, unitOut]

theorem pay4_at (h : FVec Ideal S512x1024 .bf16) (y : FVec Ideal S512x1024 .f32)
    (u1 v1 u2 v2 u3 v3 : FVec Ideal S1x1024x1024 .bf16) (r : Fin 512) (d : Fin 1024) :
    k0_pay4 (F := Ideal) h y u1 v1 u2 v2 u3 v3 (ix2 r d)
      = y (ix2 r d)
        + (∑ f : Fin 1024, unitOut (fun k => h (ix2 r k)) (fun k => u1 (ix3 0 k f)) * v1 (ix3 0 f d))
        + (∑ f : Fin 1024, unitOut (fun k => h (ix2 r k)) (fun k => u2 (ix3 0 k f)) * v2 (ix3 0 f d))
        + (∑ f : Fin 1024, unitOut (fun k => h (ix2 r k)) (fun k => u3 (ix3 0 k f)) * v3 (ix3 0 f d)) := by
  pointwise [k0_pay4, unitOut]

theorem idx : ∀ t : Fin cfg0.N, win0_0.index t = ![t.val, 0] ∧ win0_1.index t = ![t.val, 0]
    ∧ win0_2.index t = ![0, 0] ∧ win0_3.index t = ![0, 0] ∧ win0_4.index t = ![1, 0, 0]
    ∧ win0_5.index t = ![1, 0, 0] ∧ win0_6.index t = ![t.val, 0] :=
  (by decide +kernel : ∀ t : Fin grid0.N, _)

/-- The result array at a row and a column, from the arrays the launch is given. -/
def outAt (X : FVec Ideal S8x2048x1024 .f32) (A : FVec Ideal S8x2048x1024 .bf16) (W : FVec Ideal S1x1024x1024 .f32)
    (g : FVec Ideal S2x1024 .f32) (U : FVec Ideal S2x1024x4096 .f32) (V : FVec Ideal S2x4096x1024 .f32)
    (b : Fin 8) (s : Fin 2048) (d : Fin 1024) : EReal :=
  rowOut (fun d => X (ix3 b s d)) (fun k => A (ix3 b s k)) (fun k d => W (ix3 0 k d)) (fun d => g (ix2 1 d))
    (fun k f => U (ix3 1 k f)) (fun f d => V (ix3 1 f d)) d

/-- The result array of the whole launch. -/
def OUT (X : FVec Ideal S8x2048x1024 .f32) (A : FVec Ideal S8x2048x1024 .bf16) (W : FVec Ideal S1x1024x1024 .f32)
    (g : FVec Ideal S2x1024 .f32) (U : FVec Ideal S2x1024x4096 .f32) (V : FVec Ideal S2x4096x1024 .f32) :
    FVec Ideal S16384x1024 .f32 :=
  fun i => outAt X A W g U V ⟨(i 0).val / 2048, by have := (i 0).isLt; simp at this; omega⟩
    ⟨(i 0).val % 2048, by omega⟩ (i 1)

/-- What the launch's operands hold at an index, in terms of the arguments. -/
theorem V0 (c : Dev nD) (i : S16384x1024.Idx) : (V m c main_v0 : FVec Ideal S16384x1024 .f32) i
    = (m ⟨c, main_arg0⟩ : FVec Ideal S8x2048x1024 .f32) (ix3 ⟨(i 0).val / 2048, by have := (i 0).isLt; simp at this; omega⟩
        ⟨(i 0).val % 2048, by omega⟩ (i 1)) := by
  entry_read
  idx_vars i
  pointwise []

theorem V1 (c : Dev nD) (i : S16384x1024.Idx) : (V m c main_v1 : FVec Ideal S16384x1024 .bf16) i
    = (m ⟨c, main_arg1⟩ : FVec Ideal S8x2048x1024 .bf16) (ix3 ⟨(i 0).val / 2048, by have := (i 0).isLt; simp at this; omega⟩
        ⟨(i 0).val % 2048, by omega⟩ (i 1)) := by
  entry_read
  idx_vars i
  pointwise []

theorem V3 (c : Dev nD) (i : S1024x1024.Idx) : (V m c main_v3 : FVec Ideal S1024x1024 .bf16) i
    = (m ⟨c, main_arg2⟩ : FVec Ideal S1x1024x1024 .f32) (ix3 0 (i 0) (i 1)) := by
  entry_read
  idx_vars i
  pointwise []

theorem V6 (c : Dev nD) (i : S2x1024x4096.Idx) : (V m c main_v6 : FVec Ideal S2x1024x4096 .bf16) i
    = (m ⟨c, main_arg4⟩ : FVec Ideal S2x1024x4096 .f32) i := by
  entry_read
  pointwise []

theorem V7 (c : Dev nD) (i : S2x4096x1024.Idx) : (V m c main_v7 : FVec Ideal S2x4096x1024 .bf16) i
    = (m ⟨c, main_arg5⟩ : FVec Ideal S2x4096x1024 .f32) i := by
  entry_read
  pointwise []

theorem V8 (c : Dev nD) (i : S1x1024.Idx) : (V m c main_v8 : FVec Ideal S1x1024 .f32) i
    = (m ⟨c, main_arg3⟩ : FVec Ideal S2x1024 .f32) (ix2 1 (i 1)) := by
  entry_read
  idx_vars i
  pointwise []

theorem final (c : Dev nD) : (dats m 0 c).arrAt 6 (cfgs 0).N
    = OUT (m ⟨c, main_arg0⟩) (m ⟨c, main_arg1⟩) (m ⟨c, main_arg2⟩) (m ⟨c, main_arg3⟩) (m ⟨c, main_arg4⟩)
      (m ⟨c, main_arg5⟩) := by
  refine (dats m 0 c).arrAt_eq_of_covers 6 _ (by decide +kernel) fun t _ y => ?_
  blk_simp
  rw [after0_6]; frame_out
  idx_vars y
  rw [pay4_at]
  pointwise [pay3_at, pay2_at]
  refine (add_tiles _ (fun f => unitOut (fun k => normed (resid (fun d => iblk m c 0 t (ix2 y0 d))
    (fun k => iblk m c 1 t (ix2 y0 k)) fun k d => iblk m c 2 t (ix2 k d)) (fun d => iblk m c 3 t (ix2 0 d)) k)
    (fun k => iblk m c 4 t (ix3 0 k f)) * iblk m c 5 t (ix3 0 f y1))).trans ?_
  pointwise [OUT, outAt, rowOut]
  blk_point [iblk, idx t, V0 m c, V1 m c, V3 m c, V6 m c, V7 m c, V8 m c]

end Cert.Kernel2Ideal.Mlp

end
-- ==== Proof.Mlp.Reference.lean ====
module

public import proofs.«01_k».proof.Proof.Mlp.Spec
public import proofs.«01_k».proof.Proof.Gen.Reference2Ideal.Run

@[expose] public section

set_option maxRecDepth 16384

noncomputable section

namespace Cert.Reference2Ideal.Mlp

open Cert.Reference2Ideal Cert.Reference2Ideal.Gen Idealize.ShloMosaic Idealize.ShloMosaic.TcCoe Idealize.SL.Sem
open Cert.Mlp

variable (X : FVec Ideal S8x2048x1024 .f32) (A : FVec Ideal S8x2048x1024 .bf16) (W : FVec Ideal S1x1024x1024 .f32)
  (g : FVec Ideal S2x1024 .f32) (U : FVec Ideal S2x1024x4096 .f32) (D : FVec Ideal S2x4096x1024 .f32)

/-- The reference's residual array. -/
def RES : FVec Ideal S8x2048x1024 .f32 :=
  addf X (Host.dotGeneral dot_S8x2048x1024_S1024x1024_S8x2048x1024_2_0_01_1_n_n none (extf .f32 A bitsLt_bf16_f32)
    (shapeCast _ W shapeCasts_S1x1024x1024_S1024x1024))

theorem RES_at (b : Fin 8) (s : Fin 2048) (d : Fin 1024) : RES X A W (ix3 b s d)
    = resid (fun d => X (ix3 b s d)) (fun k => A (ix3 b s k)) (fun k d => W (ix3 0 k d)) d := by
  pointwise [RES, resid]

/-- The reference's normed array, from a residual array. -/
def NRM (Y : FVec Ideal S8x2048x1024 .f32) : FVec Ideal S8x2048x1024 .f32 :=
  mulf (mulf Y (broadcastInDim S8x2048x1024 ![0, 1, 2] bcast_S8x2048x1_S8x2048x1024_0_1_2 (Host.rsqrt (addf
    (Host.divf (broadcastInDim S8x2048x1 ![0, 1] bcast_S8x2048_S8x2048x1_0_1 (Host.reduceAdd (mulf Y Y)
      (constant S_ .f32 0x00000000#32) reducesTo_S8x2048x1024_S8x2048_d2 h_S_))
      (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2]
      bcast_S1024_S1x1x1024_2 (shapeCast _ (extractStridedSlice S1x1024 ![1, 0] g slices_S2x1024_S1x1024_1_0)
        shapeCasts_S1x1024_S1024)))

theorem NRM_at (Y : FVec Ideal S8x2048x1024 .f32) (b : Fin 8) (s : Fin 2048) (d : Fin 1024) : NRM g Y (ix3 b s d)
    = normed (fun d => Y (ix3 b s d)) (fun d => g (ix2 1 d)) d := by
  pointwise [NRM, normed]

/-- The reference's hidden array, from a normed array. -/
def HID (N : FVec Ideal S8x2048x1024 .f32) : FVec Ideal S8x2048x4096 .f32 :=
  mulf (maximumf (Host.dotGeneral dot_S8x2048x1024_S1024x4096_S8x2048x4096_2_0_01_1_n_n none N
      (shapeCast _ (extractStridedSlice S1x1024x4096 ![1, 0, 0] U slices_S2x1024x4096_S1x1024x4096_1_0_0)
        shapeCasts_S1x1024x4096_S1024x4096)) (broadcastInDim S8x2048x4096 ![] bcast_S_S8x2048x4096 (constant S_ .f32 0x00000000#32)))
    (maximumf (Host.dotGeneral dot_S8x2048x1024_S1024x4096_S8x2048x4096_2_0_01_1_n_n none N
      (shapeCast _ (extractStridedSlice S1x1024x4096 ![1, 0, 0] U slices_S2x1024x4096_S1x1024x4096_1_0_0)
        shapeCasts_S1x1024x4096_S1024x4096)) (broadcastInDim S8x2048x4096 ![] bcast_S_S8x2048x4096 (constant S_ .f32 0x00000000#32)))

theorem HID_at (N : FVec Ideal S8x2048x1024 .f32) (b : Fin 8) (s : Fin 2048) (f : Fin 4096) : HID U N (ix3 b s f)
    = unitOut (fun k => N (ix3 b s k)) (fun k => U (ix3 1 k f)) := by
  pointwise [HID, unitOut]

/-- The reference's result before its last reshape, from a residual and a hidden array. -/
def LAST (Y : FVec Ideal S8x2048x1024 .f32) (H : FVec Ideal S8x2048x4096 .f32) : FVec Ideal S8x2048x1024 .f32 :=
  addf Y (Host.dotGeneral dot_S8x2048x4096_S4096x1024_S8x2048x1024_2_0_01_1_n_n none H
    (shapeCast _ (extractStridedSlice S1x4096x1024 ![1, 0, 0] D slices_S2x4096x1024_S1x4096x1024_1_0_0)
      shapeCasts_S1x4096x1024_S4096x1024))

theorem LAST_at (Y : FVec Ideal S8x2048x1024 .f32) (H : FVec Ideal S8x2048x4096 .f32) (b : Fin 8) (s : Fin 2048)
    (d : Fin 1024) : LAST D Y H (ix3 b s d) = Y (ix3 b s d) + ∑ f : Fin 4096, H (ix3 b s f) * D (ix3 1 f d) := by
  pointwise [LAST]

/-- The reference's whole result. -/
def WHOLE : FVec Ideal S16384x1024 .f32 :=
  shapeCast _ (LAST D (RES X A W) (HID U (NRM g (RES X A W)))) shapeCasts_S8x2048x1024_S16384x1024

theorem WHOLE_at (r : Fin 16384) (d : Fin 1024) : WHOLE X A W g U D (ix2 r d)
    = rowOut (fun d => X (ix3 ⟨r.val / 2048, by omega⟩ ⟨r.val % 2048, by omega⟩ d))
        (fun k => A (ix3 ⟨r.val / 2048, by omega⟩ ⟨r.val % 2048, by omega⟩ k)) (fun k d => W (ix3 0 k d))
        (fun d => g (ix2 1 d)) (fun k f => U (ix3 1 k f)) (fun f d => D (ix3 1 f d)) d := by
  have h : WHOLE X A W g U D (ix2 r d) = LAST D (RES X A W) (HID U (NRM g (RES X A W)))
      (ix3 ⟨r.val / 2048, by omega⟩ ⟨r.val % 2048, by omega⟩ d) := by pointwise [WHOLE]
  rw [h, LAST_at, RES_at]
  unfold rowOut
  simp only [HID_at, NRM_at, RES_at]

end Cert.Reference2Ideal.Mlp

end
-- ==== Proof.Mlp.Claims.lean ====
module

public import proofs.«01_k».proof.Defs
public import proofs.«01_k».proof.Proof.Mlp.Kernel
public import proofs.«01_k».proof.Proof.Mlp.Reference
public import proofs.«01_k».proof.Proof.Gen.Kernel2.Frame
public import Idealize.ShloMosaic.Lib.Quiescent
public import Idealize.ShloMosaic.Lib.Claim

@[expose] public section

set_option maxRecDepth 16384

noncomputable section

/-! The claims about the output stage (`kernel2` of the test file), each as a theorem. -/

namespace Cert.Mlp

open Idealize.ShloMosaic Idealize.SL.Sem

/-- The kernel runs, keeps its arguments and ends with every counter at zero. -/
theorem frame_kernel : Cert.quiescent_Kernel2 := fun m g _ => Cert.Kernel2.Gen.frame m g

/-- So does its reading over the extended reals. -/
theorem frame_ideal : Cert.quiescent_Kernel2Ideal := fun m g _ => Cert.Kernel2Ideal.Gen.frame m g

/-- So does the reference. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The two results are one array: each is the stage's function of a row, at every row. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.res_main_v28 m' c
      = (Cert.Kernel2Ideal.Gen.dats m 0 c).arrAt 6 (Cert.Kernel2Ideal.cfgs 0).N := by
  rw [Cert.Kernel2Ideal.Mlp.final m c]
  unfold Cert.Reference2Ideal.Value.res_main_v28
  rw [h0, h1, h2, h3, h4, h5]
  funext i
  idx_vars i
  exact Cert.Reference2Ideal.Mlp.WHOLE_at _ _ _ _ _ _ _ _

/-- From equal arguments the kernel and the reference both run and end with equal results. -/
theorem algebraic : Cert.algebraic_Kernel2Ideal_Reference2Ideal := by
  pair_intro
  · run_from Cert.Kernel2Ideal.Gen.run_main m g
  · run_from Cert.Reference2Ideal.Value.run m' g'
    obtain ⟨h0, h1, h2, h3, h4, h5⟩ := hagree c
    exact result_eq m m' c h0 h1 h2 h3 h4 h5

end Cert.Mlp

end
-- ==== Proof.Rwkv.Spec.lean ====
module

public import proofs.«01_k».proof.Proof.Mlp.Spec

@[expose] public section

set_option maxRecDepth 16384

noncomputable section

/-! The mixed row of the first layer's output stage as a function of one row of each operand: the group norm over heads
of 64 lanes, the bonus of the current token, and the gate. -/

namespace Cert.Rwkv

open Idealize.ShloMosaic

/-- The sum over the head of 64 lanes that holds lane `d`. -/
def headSum (x : Fin 1024 → EReal) (d : Fin 1024) : EReal :=
  ∑ e : Fin 64, x ⟨d.val / 64 * 64 + e.val, by omega⟩

/-- A lane less the mean of its head. -/
def centred (y : Fin 1024 → EReal) (d : Fin 1024) : EReal :=
  y d - headSum y d * Ideal.ofBits .f32 0x3C800000#32

/-- The mixed row at lane `d`. -/
def mixRow (y r k v g w lw lb : Fin 1024 → EReal) (d : Fin 1024) : EReal :=
  (centred y d * Ideal.rsqrt (headSum (fun j => centred y j * centred y j) d * Ideal.ofBits .f32 0x3C800000#32
      + Ideal.ofBits .f32 0x3A27C5AC#32) * lw d + lb d + headSum (fun j => r j * k j * w j) d * v d) * g d

/-- Dividing by 64 is multiplying by the constant 1/64, at every extended real. -/
theorem div_64 (x : EReal) :
    Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num)]

/-- A sum over 128 lanes with the upper half replaced by zero is the sum over the lower half. -/
theorem sum_lower (f : Fin 128 → EReal) :
    ∑ e : Fin 128, (if e.val < 64 then f e else 0) = ∑ e : Fin 64, f ⟨e.val, by omega⟩ := by
  rw [Fin.sum_univ_add (a := 64) (b := 64) (fun e : Fin 128 => if e.val < 64 then f e else 0)]
  have h : ∀ e : Fin 64, ¬ (64 + e.val < 64) := fun e => by omega
  simp [Fin.natAdd, Fin.castAdd, Fin.castLE, h]

/-- A sum over 128 lanes with the lower half replaced by zero is the sum over the upper half. -/
theorem sum_upper (f : Fin 128 → EReal) :
    ∑ e : Fin 128, (if e.val < 64 then 0 else f e) = ∑ e : Fin 64, f ⟨64 + e.val, by omega⟩ := by
  rw [Fin.sum_univ_add (a := 64) (b := 64) (fun e : Fin 128 => if e.val < 64 then 0 else f e)]
  have h : ∀ e : Fin 64, ¬ (64 + e.val < 64) := fun e => by omega
  simp [Fin.natAdd, Fin.castAdd, Fin.castLE, h]

end Cert.Rwkv

end
-- ==== Proof.Rwkv.Stage.lean ====
module

public import proofs.«01_k».proof.Proof.Rwkv.Spec
public import proofs.«01_k».proof.Proof.Gen.Kernel3Ideal

@[expose] public section

set_option maxRecDepth 16384

noncomputable section

/-! The output stage on a slab of `n` rows, as one composed array expression; at every row and lane it is the mixed row
of that row of the operands. -/

namespace Cert.Rwkv

open Idealize.ShloMosaic

/-- A slab of `n` rows of `k` lanes. -/
abbrev Slab (n k : ℕ) : Shape := ⟨2, ![n, k]⟩

/-- The shape facts the expressions below need of a slab of `n` rows. -/
structure Fits (n : ℕ) : Prop where
  io : (Slab n 128).Iotas .tc 32 [1]
  re : (Slab n 128).Reduces [1] ⟨1, ![n]⟩
  col : (⟨1, ![n]⟩ : Shape).ShapeCasts (Slab n 1)
  same1 : (Slab n 1).ShapeCasts (Slab n 1)
  wide : (Slab n 1).Broadcasts (Slab n 128)
  sl : ∀ j : Fin 8, (Slab n 1024).Slices ![0, 128 * j.val] (Slab n 128)
  cat : Shape.Concatenates [Slab n 128, Slab n 128, Slab n 128, Slab n 128, Slab n 128, Slab n 128, Slab n 128,
    Slab n 128] (Slab n 1024) 1
  same : (Slab n 1024).ShapeCasts (Slab n 1024)
  sameRow : (Slab 1 1024).ShapeCasts (Slab 1 1024)
  down : (Slab 1 1024).Broadcasts (Slab n 1024)
  bits : FTy.bits .bf16 < FTy.bits .f32

variable {n : ℕ} (h : Fits n)

/-- Which of 128 lanes lie in the first of the two heads. -/
def lower : IVec (Slab n 128) 1 := cmpi .slt (iota .tc (Slab n 128) 32 [1] h.io) (broadcast (Slab n 128) 64#32)

/-- Each lane of a group of 128 replaced by the sum over its head of 64. -/
def group (x : FVec Ideal (Slab n 128) .f32) : FVec Ideal (Slab n 128) .f32 :=
  select (lower h)
    (broadcastTo (Slab n 128) (shapeCast (Slab n 1) (shapeCast (Slab n 1) (multiReduction .add [1] ⟨1, ![n]⟩
      (select (lower h) x (broadcast (Slab n 128) (Scalar.ofBits .f32 0x00000000#32))) 0x00000000#32 h.re (.inl rfl) rfl)
      h.col) h.same1) h.wide)
    (broadcastTo (Slab n 128) (shapeCast (Slab n 1) (shapeCast (Slab n 1) (multiReduction .add [1] ⟨1, ![n]⟩
      (select (lower h) (broadcast (Slab n 128) (Scalar.ofBits .f32 0x00000000#32)) x) 0x00000000#32 h.re (.inl rfl) rfl)
      h.col) h.same1) h.wide)

/-- One of the eight groups of 128 lanes, summed by heads. -/
def piece (x : FVec Ideal (Slab n 1024) .f32) (o : ℕ) (s : (Slab n 1024).Slices ![0, o] (Slab n 128)) :
    FVec Ideal (Slab n 128) .f32 := group h (extractStridedSlice (Slab n 128) ![0, o] x s)

/-- Each lane replaced by the sum over its head. -/
def heads (x : FVec Ideal (Slab n 1024) .f32) : FVec Ideal (Slab n 1024) .f32 :=
  concatenate (Slab n 1024) 1 [⟨Slab n 128, piece h x 0 (h.sl 0)⟩, ⟨Slab n 128, piece h x 128 (h.sl 1)⟩,
    ⟨Slab n 128, piece h x 256 (h.sl 2)⟩, ⟨Slab n 128, piece h x 384 (h.sl 3)⟩, ⟨Slab n 128, piece h x 512 (h.sl 4)⟩,
    ⟨Slab n 128, piece h x 640 (h.sl 5)⟩, ⟨Slab n 128, piece h x 768 (h.sl 6)⟩, ⟨Slab n 128, piece h x 896 (h.sl 7)⟩] h.cat

/-- The slab less the mean of each head. -/
def centre (y : FVec Ideal (Slab n 1024) .f32) : FVec Ideal (Slab n 1024) .f32 :=
  subf y (mulf (heads h y) (broadcast (Slab n 1024) (Scalar.ofBits .f32 0x3C800000#32)))

/-- The centred slab over the square root of each head's mean square. -/
def scaled (d : FVec Ideal (Slab n 1024) .f32) : FVec Ideal (Slab n 1024) .f32 :=
  mulf d (rsqrt (addf (mulf (heads h (mulf d d)) (broadcast (Slab n 1024) (Scalar.ofBits .f32 0x3C800000#32)))
    (broadcast (Slab n 1024) (Scalar.ofBits .f32 0x3A27C5AC#32))))

/-- A row repeated down the slab. -/
def rows (w : FVec Ideal (Slab 1 1024) .f32) : FVec Ideal (Slab n 1024) .f32 :=
  broadcastTo (Slab n 1024) (shapeCast (Slab 1 1024) w h.sameRow) h.down

/-- A slab in half the width read in the full one. -/
def wideF (x : FVec Ideal (Slab n 1024) .bf16) : FVec Ideal (Slab n 1024) .f32 :=
  extf .f32 (shapeCast (Slab n 1024) x h.same) h.bits

/-- The bonus of the current token. -/
def bonus (r k v : FVec Ideal (Slab n 1024) .bf16) (w : FVec Ideal (Slab 1 1024) .f32) : FVec Ideal (Slab n 1024) .f32 :=
  mulf (heads h (mulf (mulf (wideF h r) (wideF h k)) (rows h w))) (wideF h v)

/-- The whole stage on a slab. -/
def stage (y : FVec Ideal (Slab n 1024) .f32) (r k v g : FVec Ideal (Slab n 1024) .bf16)
    (w lw lb : FVec Ideal (Slab 1 1024) .f32) : FVec Ideal (Slab n 1024) .bf16 :=
  shapeCast (Slab n 1024) (truncf .bf16 (mulf (addf (addf (mulf (scaled h (centre h (shapeCast (Slab n 1024) y h.same)))
    (rows h lw)) (rows h lb)) (bonus h r k v w)) (wideF h g)) h.bits) h.same

end Cert.Rwkv

end
-- ==== Proof.Rwkv.StageAt.lean ====
module

public import proofs.«01_k».proof.Proof.Rwkv.Stage

@[expose] public section

set_option maxRecDepth 16384

noncomputable section

/-! The stage on a slab, read at a row and a lane. -/

namespace Cert.Rwkv

open Idealize.ShloMosaic

variable {n : ℕ} (h : Fits n)

/-- A column of row values repeated over 128 lanes. -/
theorem column_at (hn : n = 64 ∨ n = 512) (z : FVec Ideal ⟨1, ![n]⟩ .f32) (r : Fin n) (l : Fin 128) :
    broadcastTo (Slab n 128) (shapeCast (Slab n 1) (shapeCast (Slab n 1) z h.col) h.same1) h.wide (ix2 r l)
      = z (ix1 r) := by
  rcases hn with rfl | rfl <;> pointwise []

/-- The lanes of the first head are those below 64. -/
theorem lower_word : ∀ l : Fin 128, IntOp.cmpi CmpIPredicate.slt (BitVec.ofNat 32 l.val) 64#32
    = if l.val < 64 then 1#1 else 0#1 := by decide

theorem lower_at (r : Fin n) (l : Fin 128) : lower h (ix2 r l) = if l.val < 64 then 1#1 else 0#1 := by
  rw [← lower_word l]
  pointwise [lower]

theorem pick (l : Fin 128) (a b : EReal) :
    Scalar.select (if l.val < 64 then 1#1 else 0#1 : BitVec 1) a b = if l.val < 64 then a else b := by
  split <;> rfl

/-- A sum along the lanes of a slab. -/
theorem lane_sum_at (x : FVec Ideal (Slab n 128) .f32) (r : Fin n) :
    multiReduction (F := Ideal) .add [1] ⟨1, ![n]⟩ x 0x00000000#32 h.re (.inl rfl) rfl (ix1 r) = ∑ e : Fin 128, x (ix2 r e) := by
  pointwise []

theorem select_at {s : Shape} (c : IVec s 1) (a b : FVec Ideal s .f32) (i : s.Idx) :
    select c a b i = Scalar.select (c i) (a i) (b i) := rfl

theorem zeros_at (i : (Slab n 128).Idx) :
    broadcast (Slab n 128) (Scalar.ofBits (F := Ideal) .f32 0x00000000#32) i = (0 : EReal) := Ideal.ofBits_zero_f32

theorem group_at (hn : n = 64 ∨ n = 512) (x : FVec Ideal (Slab n 128) .f32) (r : Fin n) (l : Fin 128) :
    group h x (ix2 r l) = if l.val < 64 then ∑ e : Fin 64, x (ix2 r ⟨e.val, by omega⟩)
      else ∑ e : Fin 64, x (ix2 r ⟨64 + e.val, by omega⟩) := by
  rw [← sum_lower fun e => x (ix2 r e), ← sum_upper fun e => x (ix2 r e)]
  unfold group
  rw [select_at, column_at h hn, column_at h hn, lower_at h, pick, lane_sum_at h, lane_sum_at h]
  simp only [select_at, lower_at h, pick, zeros_at]

/-- One group of 128 lanes, from its place in the row. -/
theorem piece_at (hn : n = 64 ∨ n = 512) (x : FVec Ideal (Slab n 1024) .f32) (o : ℕ)
    (s : (Slab n 1024).Slices ![0, o] (Slab n 128)) (ho : o + 128 ≤ 1024) (hd : 128 ∣ o) (r : Fin n) (l : Fin 128) :
    piece h x o s (ix2 r l) = headSum (fun j => x (ix2 r j)) ⟨o + l.val, by omega⟩ := by
  have cut : ∀ e : Fin 128, extractStridedSlice (Slab n 128) ![0, o] x s (ix2 r e) = x (ix2 r ⟨o + e.val, by omega⟩) := by
    intro e
    unfold extractStridedSlice
    congr 1
    funext a
    refine Fin.ext ?_
    revert a
    rw [Fin.forall_fin_two]
    exact ⟨by simp [ix2], by simp [ix2]⟩
  obtain ⟨q, rfl⟩ := hd
  unfold piece headSum
  rw [group_at h hn]
  split
  · refine Finset.sum_congr rfl fun e _ => ?_
    rw [cut]; congr 2; refine Fin.ext ?_; dsimp only; omega
  · refine Finset.sum_congr rfl fun e _ => ?_
    rw [cut]; congr 2; refine Fin.ext ?_; dsimp only; omega

/-- Eight groups of 128 lanes side by side. -/
def side (p : Fin 8 → FVec Ideal (Slab n 128) .f32) : FVec Ideal (Slab n 1024) .f32 :=
  concatenate (Slab n 1024) 1 [⟨Slab n 128, p 0⟩, ⟨Slab n 128, p 1⟩, ⟨Slab n 128, p 2⟩, ⟨Slab n 128, p 3⟩,
    ⟨Slab n 128, p 4⟩, ⟨Slab n 128, p 5⟩, ⟨Slab n 128, p 6⟩, ⟨Slab n 128, p 7⟩] h.cat

theorem side_at (p : Fin 8 → FVec Ideal (Slab n 128) .f32) (q : Fin 8) (r : Fin n) (l : Fin 128) :
    side h p (ix2 r ⟨128 * q.val + l.val, by omega⟩) = p q (ix2 r l) := by
  have off : ∀ y : Fin 2, y ≠ 1 → (ix2 r l y).val = (ix2 (n0 := n) (n1 := 1024) r ⟨128 * q.val + l.val, by omega⟩ y).val := by
    intro y hy
    fin_cases y
    · rfl
    · exact absurd rfl hy
  unfold side
  fin_cases q
  · exact concatenate_apply_piece (t := Slab n 1024) 1 _ _ _ 0 (by simp) (Slab n 128) (p 0) rfl rfl 0 (by rfl) (ix2 r l) off rfl
  · exact concatenate_apply_piece (t := Slab n 1024) 1 _ _ _ 1 (by simp) (Slab n 128) (p 1) rfl rfl 128 (by rfl) (ix2 r l) off rfl
  · exact concatenate_apply_piece (t := Slab n 1024) 1 _ _ _ 2 (by simp) (Slab n 128) (p 2) rfl rfl 256 (by rfl) (ix2 r l) off rfl
  · exact concatenate_apply_piece (t := Slab n 1024) 1 _ _ _ 3 (by simp) (Slab n 128) (p 3) rfl rfl 384 (by rfl) (ix2 r l) off rfl
  · exact concatenate_apply_piece (t := Slab n 1024) 1 _ _ _ 4 (by simp) (Slab n 128) (p 4) rfl rfl 512 (by rfl) (ix2 r l) off rfl
  · exact concatenate_apply_piece (t := Slab n 1024) 1 _ _ _ 5 (by simp) (Slab n 128) (p 5) rfl rfl 640 (by rfl) (ix2 r l) off rfl
  · exact concatenate_apply_piece (t := Slab n 1024) 1 _ _ _ 6 (by simp) (Slab n 128) (p 6) rfl rfl 768 (by rfl) (ix2 r l) off rfl
  · exact concatenate_apply_piece (t := Slab n 1024) 1 _ _ _ 7 (by simp) (Slab n 128) (p 7) rfl rfl 896 (by rfl) (ix2 r l) off rfl

theorem heads_eq (x : FVec Ideal (Slab n 1024) .f32) : heads h x = side h fun q => piece h x (128 * q.val) (h.sl q) := rfl

/-- Every lane of the summed slab is the sum over its head. -/
theorem heads_at (hn : n = 64 ∨ n = 512) (x : FVec Ideal (Slab n 1024) .f32) (r : Fin n) (d : Fin 1024) :
    heads h x (ix2 r d) = headSum (fun j => x (ix2 r j)) d := by
  have e : d = ⟨128 * (⟨d.val / 128, by omega⟩ : Fin 8).val + (⟨d.val % 128, by omega⟩ : Fin 128).val, by dsimp only; omega⟩ :=
    Fin.ext (by dsimp only; omega)
  rw [heads_eq]
  conv_lhs => rw [e]
  rw [side_at, piece_at h hn x _ _ (by dsimp only; omega) ⟨_, rfl⟩]
  congr 1
  exact e.symm

theorem rows_at (hn : n = 64 ∨ n = 512) (w : FVec Ideal (Slab 1 1024) .f32) (r : Fin n) (d : Fin 1024) :
    rows h w (ix2 r d) = w (ix2 0 d) := by
  rcases hn with rfl | rfl <;> pointwise [rows]

theorem same_at {φ : FTy} (hn : n = 64 ∨ n = 512) (x : FVec Ideal (Slab n 1024) φ) (r : Fin n) (d : Fin 1024) :
    shapeCast (Slab n 1024) x h.same (ix2 r d) = x (ix2 r d) := by
  rcases hn with rfl | rfl <;> pointwise []

theorem wideF_at (hn : n = 64 ∨ n = 512) (x : FVec Ideal (Slab n 1024) .bf16) (r : Fin n) (d : Fin 1024) :
    wideF h x (ix2 r d) = x (ix2 r d) := by
  rcases hn with rfl | rfl <;> pointwise [wideF]

theorem centre_at (hn : n = 64 ∨ n = 512) (y : FVec Ideal (Slab n 1024) .f32) (r : Fin n) (d : Fin 1024) :
    centre h y (ix2 r d) = centred (fun j => y (ix2 r j)) d := by
  pointwise [centre, heads_at h hn, centred]

theorem scaled_at (hn : n = 64 ∨ n = 512) (x : FVec Ideal (Slab n 1024) .f32) (r : Fin n) (d : Fin 1024) :
    scaled h x (ix2 r d) = x (ix2 r d) * Ideal.rsqrt (headSum (fun j => x (ix2 r j) * x (ix2 r j)) d
      * Ideal.ofBits .f32 0x3C800000#32 + Ideal.ofBits .f32 0x3A27C5AC#32) := by
  pointwise [scaled, heads_at h hn]

theorem bonus_at (hn : n = 64 ∨ n = 512) (a k v : FVec Ideal (Slab n 1024) .bf16) (w : FVec Ideal (Slab 1 1024) .f32)
    (r : Fin n) (d : Fin 1024) : bonus h a k v w (ix2 r d)
      = headSum (fun j => a (ix2 r j) * k (ix2 r j) * w (ix2 0 j)) d * v (ix2 r d) := by
  pointwise [bonus, heads_at h hn, wideF_at h hn, rows_at h hn]

/-- The stage at a row and a lane. -/
theorem stage_at (hn : n = 64 ∨ n = 512) (y : FVec Ideal (Slab n 1024) .f32) (a k v g : FVec Ideal (Slab n 1024) .bf16)
    (w lw lb : FVec Ideal (Slab 1 1024) .f32) (r : Fin n) (d : Fin 1024) :
    stage h y a k v g w lw lb (ix2 r d)
      = mixRow (fun j => y (ix2 r j)) (fun j => a (ix2 r j)) (fun j => k (ix2 r j)) (fun j => v (ix2 r j))
          (fun j => g (ix2 r j)) (fun j => w (ix2 0 j)) (fun j => lw (ix2 0 j)) (fun j => lb (ix2 0 j)) d := by
  unfold stage
  rw [same_at h hn]
  pointwise [scaled_at h hn, centre_at h hn, same_at h hn, rows_at h hn, bonus_at h hn, wideF_at h hn, mixRow]

end Cert.Rwkv

end
-- ==== Proof.Rwkv.Fits.lean ====
module

public import proofs.«01_k».proof.Proof.Rwkv.StageAt
public import proofs.«01_k».proof.Proof.Gen.Kernel3Ideal.Frame.RunA

@[expose] public section

set_option maxRecDepth 16384

noncomputable section

/-! The shape facts of the two slabs the kernel works on: 64 rows and 512 rows. -/

namespace Cert.Kernel3Ideal.Rwkv

open Cert.Kernel3Ideal Cert.Kernel3Ideal.Gen Idealize.ShloMosaic Idealize.ShloMosaic.TcCoe Idealize.SL.Sem
open Cert.Rwkv

theorem fits64 : Fits 64 where
  io := iota_S64x128_d1_w32
  re := reduces_S64x128_S64
  col := shapeCasts_S64_S64x1
  same1 := shapeCasts_S64x1_S64x1
  wide := broadcasts_S64x1_S64x128
  sl := fun j => by
    fin_cases j
    · exact slices_S64x1024_o0_0_S64x128
    · exact slices_S64x1024_o0_128_S64x128
    · exact slices_S64x1024_o0_256_S64x128
    · exact slices_S64x1024_o0_384_S64x128
    · exact slices_S64x1024_o0_512_S64x128
    · exact slices_S64x1024_o0_640_S64x128
    · exact slices_S64x1024_o0_768_S64x128
    · exact slices_S64x1024_o0_896_S64x128
  cat := concatenates_S64x128_S64x128_S64x128_S64x128_S64x128_S64x128_S64x128_S64x128_S64x1024_d1
  same := shapeCasts_S64x1024_S64x1024
  sameRow := shapeCasts_S1x1024_S1x1024
  down := broadcasts_S1x1024_S64x1024
  bits := bitsLt_bf16_f32

theorem fits512 : Fits 512 where
  io := iota_S512x128_d1_w32
  re := reduces_S512x128_S512
  col := shapeCasts_S512_S512x1
  same1 := shapeCasts_S512x1_S512x1
  wide := broadcasts_S512x1_S512x128
  sl := fun j => by
    fin_cases j
    · exact slices_S512x1024_o0_0_S512x128
    · exact slices_S512x1024_o0_128_S512x128
    · exact slices_S512x1024_o0_256_S512x128
    · exact slices_S512x1024_o0_384_S512x128
    · exact slices_S512x1024_o0_512_S512x128
    · exact slices_S512x1024_o0_640_S512x128
    · exact slices_S512x1024_o0_768_S512x128
    · exact slices_S512x1024_o0_896_S512x128
  cat := concatenates_S512x128_S512x128_S512x128_S512x128_S512x128_S512x128_S512x128_S512x128_S512x1024_d1
  same := shapeCasts_S512x1024_S512x1024
  sameRow := shapeCasts_S1x1024_S1x1024
  down := broadcasts_S1x1024_S512x1024
  bits := bitsLt_bf16_f32

end Cert.Kernel3Ideal.Rwkv

end
-- ==== Proof.Rwkv.First.lean ====
module

public import proofs.«01_k».proof.Proof.Rwkv.Fits
public import Idealize.ShloMosaic.Lib.Pipeline.ValueKit
public import proofs.«01_k».proof.Proof.Gen.Kernel3Ideal.Frame.RunA

@[expose] public section

set_option maxRecDepth 16384

noncomputable section

/-! What the first grid point leaves in the scratch: the stage on the first 512 rows. -/

namespace Cert.Kernel3Ideal.Rwkv

open Cert.Kernel3Ideal Cert.Kernel3Ideal.Gen Idealize.ShloMosaic Idealize.ShloMosaic.TcCoe Idealize.SL.Sem
open Cert.Rwkv

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x4096 .bf16) (harg12 : arg12.IsWhole) (arg13 : Memref sig .tc .vmem S1x4096x1024 .bf16) (harg13 : arg13.IsWhole) (arg14 : Memref sig .tc .vmem S512x1024 .f32) (harg14 : arg14.IsWhole) (arg15 : Memref sig .tc .vmem S512x1024 .bf16) (harg15 : arg15.IsWhole)
  (x0 : Vec Ideal S512x1024 .f32) (x1 : Vec Ideal S512x1024 .f32) (x2 : Vec Ideal S512x1024 .bf16) (x3 : Vec Ideal S512x1024 .bf16) (x4 : Vec Ideal S512x1024 .bf16) (x5 : Vec Ideal S512x1024 .bf16) (x6 : Vec Ideal S1x1024 .f32) (x7 : Vec Ideal S1x1024 .f32) (x8 : Vec Ideal S1x1024 .f32) (x9 : Vec Ideal S1024x1024 .bf16) (x10 : Vec Ideal S1x1024 .f32) (x11 : Vec Ideal S1x1024x4096 .bf16) (x12 : Vec Ideal S1x4096x1024 .bf16)

theorem found (hc0 : cond0_0 i) (hc1 : ¬cond0_1 i) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12).2.1 = stage fits512 x1 x2 x3 x4 x5 x6 x7 x8 := by
  frame_out
  rfl

end Cert.Kernel3Ideal.Rwkv

end
-- ==== Proof.Rwkv.Later.lean ====
module

public import proofs.«01_k».proof.Proof.Rwkv.Fits
public import proofs.«01_k».proof.Proof.Gen.Kernel3Ideal.Frame
public import Idealize.ShloMosaic.Lib.Pipeline.ValueKit
public import proofs.«01_k».proof.Proof.Gen.Kernel3Ideal.Frame

@[expose] public section

set_option maxRecDepth 16384

noncomputable section

/-! What a later grid point leaves in the scratch: the stage on its 512 rows, in eight slabs of 64 rows. -/

namespace Cert.Kernel3Ideal.Rwkv

open Cert.Kernel3Ideal Cert.Kernel3Ideal.Gen Idealize.ShloMosaic Idealize.ShloMosaic.TcCoe Idealize.SL.Sem
open Cert.Rwkv

/-- A 64-row load of a 512-row block starting at row `o`. -/
def cut (o : Nat) (inb : ∀ a, (![o, 0] : Fin 2 → Nat) a + S64x1024.size a ≤ S512x1024.size a) {e : EltTy}
    (arg : Memref sig .tc .vmem S512x1024 e) (harg : arg.IsWhole) (x : Vec Ideal S512x1024 e) : Vec Ideal S64x1024 e :=
  View.readAt (Elt Ideal) arg.view (Rect.unit (s := S512x1024) ![o, 0] S64x1024.size inb).toLoadRect (harg.unread x)

/-- A load of a whole row vector. -/
def row (arg : Memref sig .tc .vmem S1x1024 .f32) (harg : arg.IsWhole) (x : Vec Ideal S1x1024 .f32) : Vec Ideal S1x1024 .f32 :=
  View.readAt (Elt Ideal) arg.view (Rect.unit (s := S1x1024) ![0, 0] S1x1024.size inb_S1x1024_S1x1024_0_0).toLoadRect (harg.unread x)

theorem cut_at (o : Nat) (inb : ∀ a, (![o, 0] : Fin 2 → Nat) a + S64x1024.size a ≤ S512x1024.size a) {e : EltTy}
    (arg : Memref sig .tc .vmem S512x1024 e) (harg : arg.IsWhole) (x : Vec Ideal S512x1024 e) (a : Fin 64) (d : Fin 1024)
    (r : Fin 512) (hr : r.val = o + a.val) : cut o inb arg harg x (ix2 a d) = x (ix2 r d) := by
  unfold cut
  rw [View.readAt_eq_ld, Memref.IsWhole.read_unread]
  refine congrArg x (funext fun q => Fin.ext ?_)
  fin_cases q
  · show o + 1 * a.val = r.val
    omega
  · show 0 + 1 * d.val = d.val
    omega

theorem row_eq (arg : Memref sig .tc .vmem S1x1024 .f32) (harg : arg.IsWhole) (x : Vec Ideal S1x1024 .f32) :
    row arg harg x = x := by
  unfold row
  rw [View.readAt_eq_ld, Memref.IsWhole.read_unread]
  exact View.ld_unit_lit' _ x (by decide)

/-- A slab stored at row `o` holds the mixed rows, wherever it is read. -/
theorem slab (o : Nat) (inb : ∀ a, (![o, 0] : Fin 2 → Nat) a + S64x1024.size a ≤ S512x1024.size a)
    (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (x1 : Vec Ideal S512x1024 .f32) (x2 x3 x4 x5 : Vec Ideal S512x1024 .bf16) (x6 x7 x8 : Vec Ideal S1x1024 .f32) (r : Fin 512) (d : Fin 1024)
    (P : Vec Ideal S64x1024 .bf16)
    (hP : P = stage fits64 (cut o inb arg2 harg2 x1) (cut o inb arg3 harg3 x2) (cut o inb arg4 harg4 x3)
      (cut o inb arg5 harg5 x4) (cut o inb arg6 harg6 x5) (row arg7 harg7 x6) (row arg8 harg8 x7) (row arg9 harg9 x8)) :
    View.TileAt (Val := Elt Ideal) (S := S512x1024) (e := .bf16) (ix2 r d) ![o, 0] S64x1024.size P
      (mixRow (fun j => x1 (ix2 r j)) (fun j => x2 (ix2 r j)) (fun j => x3 (ix2 r j)) (fun j => x4 (ix2 r j))
        (fun j => x5 (ix2 r j)) (fun j => x6 (ix2 0 j)) (fun j => x7 (ix2 0 j)) (fun j => x8 (ix2 0 j)) d) := by
  intro x hx
  subst hP
  obtain ⟨a, e, rfl⟩ : ∃ (a : Fin 64) (e : Fin 1024), x = ix2 a e := ⟨x 0, x 1, by funext q; fin_cases q <;> rfl⟩
  have h0 : r.val = o + a.val := hx 0
  have h1 : d = e := Fin.ext (by have h : d.val = 0 + e.val := hx 1; omega)
  subst h1
  refine (stage_at fits64 (.inl rfl) _ _ _ _ _ _ _ _ a d).trans ?_
  simp only [row_eq, fun (e : EltTy) arg harg (x : Vec Ideal S512x1024 e) j => cut_at o inb arg harg x a j r h0]

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x4096 .bf16) (harg12 : arg12.IsWhole) (arg13 : Memref sig .tc .vmem S1x4096x1024 .bf16) (harg13 : arg13.IsWhole) (arg14 : Memref sig .tc .vmem S512x1024 .f32) (harg14 : arg14.IsWhole) (arg15 : Memref sig .tc .vmem S512x1024 .bf16) (harg15 : arg15.IsWhole)
  (x0 : Vec Ideal S512x1024 .f32) (x1 : Vec Ideal S512x1024 .f32) (x2 : Vec Ideal S512x1024 .bf16) (x3 : Vec Ideal S512x1024 .bf16) (x4 : Vec Ideal S512x1024 .bf16) (x5 : Vec Ideal S512x1024 .bf16) (x6 : Vec Ideal S1x1024 .f32) (x7 : Vec Ideal S1x1024 .f32) (x8 : Vec Ideal S1x1024 .f32) (x9 : Vec Ideal S1024x1024 .bf16) (x10 : Vec Ideal S1x1024 .f32) (x11 : Vec Ideal S1x1024x4096 .bf16) (x12 : Vec Ideal S1x4096x1024 .bf16)

theorem later (hc0 : ¬cond0_0 i) (hc1 : cond0_1 i) (xs0 : Vec Ideal S512x1024 .bf16) (r : Fin 512) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0).2.1 (ix2 r d)
      = mixRow (fun j => x1 (ix2 r j)) (fun j => x2 (ix2 r j)) (fun j => x3 (ix2 r j)) (fun j => x4 (ix2 r j))
        (fun j => x5 (ix2 r j)) (fun j => x6 (ix2 0 j)) (fun j => x7 (ix2 0 j)) (fun j => x8 (ix2 0 j)) d := by
  refine View.canon_eq_of_allAt _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0 _) ?_
  frame_open
  refine View.allAt_cons_unit _ _ _ _ _ (slab 448 inb_S512x1024_S64x1024_448_0 arg2 harg2 arg3 harg3 arg4 harg4 arg5 harg5 arg6 harg6
    arg7 harg7 arg8 harg8 arg9 harg9 x1 x2 x3 x4 x5 x6 x7 x8 r d _ rfl) ?_
  refine View.allAt_cons_unit _ _ _ _ _ (slab 384 inb_S512x1024_S64x1024_384_0 arg2 harg2 arg3 harg3 arg4 harg4 arg5 harg5 arg6 harg6
    arg7 harg7 arg8 harg8 arg9 harg9 x1 x2 x3 x4 x5 x6 x7 x8 r d _ rfl) ?_
  refine View.allAt_cons_unit _ _ _ _ _ (slab 320 inb_S512x1024_S64x1024_320_0 arg2 harg2 arg3 harg3 arg4 harg4 arg5 harg5 arg6 harg6
    arg7 harg7 arg8 harg8 arg9 harg9 x1 x2 x3 x4 x5 x6 x7 x8 r d _ rfl) ?_
  refine View.allAt_cons_unit _ _ _ _ _ (slab 256 inb_S512x1024_S64x1024_256_0 arg2 harg2 arg3 harg3 arg4 harg4 arg5 harg5 arg6 harg6
    arg7 harg7 arg8 harg8 arg9 harg9 x1 x2 x3 x4 x5 x6 x7 x8 r d _ rfl) ?_
  refine View.allAt_cons_unit _ _ _ _ _ (slab 192 inb_S512x1024_S64x1024_192_0 arg2 harg2 arg3 harg3 arg4 harg4 arg5 harg5 arg6 harg6
    arg7 harg7 arg8 harg8 arg9 harg9 x1 x2 x3 x4 x5 x6 x7 x8 r d _ rfl) ?_
  refine View.allAt_cons_unit _ _ _ _ _ (slab 128 inb_S512x1024_S64x1024_128_0 arg2 harg2 arg3 harg3 arg4 harg4 arg5 harg5 arg6 harg6
    arg7 harg7 arg8 harg8 arg9 harg9 x1 x2 x3 x4 x5 x6 x7 x8 r d _ rfl) ?_
  refine View.allAt_cons_unit _ _ _ _ _ (slab 64 inb_S512x1024_S64x1024_64_0 arg2 harg2 arg3 harg3 arg4 harg4 arg5 harg5 arg6 harg6
    arg7 harg7 arg8 harg8 arg9 harg9 x1 x2 x3 x4 x5 x6 x7 x8 r d _ rfl) ?_
  refine View.allAt_cons_unit _ _ _ _ _ (slab 0 inb_S512x1024_S64x1024_0_0 arg2 harg2 arg3 harg3 arg4 harg4 arg5 harg5 arg6 harg6
    arg7 harg7 arg8 harg8 arg9 harg9 x1 x2 x3 x4 x5 x6 x7 x8 r d _ rfl) ?_
  exact View.allAt_nil _ _

end Cert.Kernel3Ideal.Rwkv

end
-- ==== Proof.Rwkv.Tail.lean ====
module

public import proofs.«01_k».proof.Proof.Mlp.Spec
public import proofs.«01_k».proof.Proof.Gen.Kernel3Ideal.Frame
public import Idealize.ShloMosaic.Lib.Pipeline.ValueKit
public import proofs.«01_k».proof.Proof.Gen.Kernel3Ideal.Frame

@[expose] public section

set_option maxRecDepth 16384

noncomputable section

/-! What a later grid point stores in the result block: the projection, the norm and the MLP on the rows the scratch
holds from the point before. -/

namespace Cert.Kernel3Ideal.Rwkv

open Cert.Kernel3Ideal Cert.Kernel3Ideal.Gen Idealize.ShloMosaic Idealize.ShloMosaic.TcCoe Idealize.SL.Sem
open Cert.Mlp

theorem unit107_at (h : FVec Ideal S512x1024 .bf16) (u : FVec Ideal S1x1024x1024 .bf16) (r : Fin 512) (f : Fin 1024) :
    k0_pay107 (F := Ideal) h u (ix2 r f) = max (∑ k : Fin 1024, h (ix2 r k) * u (ix3 0 k f)) 0 := by
  pointwise [k0_pay107]

theorem unit203_at (h : FVec Ideal S512x1024 .bf16) (u : FVec Ideal S1x1024x1024 .bf16) (r : Fin 512) (f : Fin 1024) :
    k0_pay203 (F := Ideal) h u (ix2 r f) = max (∑ k : Fin 1024, h (ix2 r k) * u (ix3 0 k f)) 0 := by
  pointwise [k0_pay203]

theorem unit306_at (h : FVec Ideal S512x1024 .bf16) (u : FVec Ideal S1x1024x1024 .bf16) (r : Fin 512) (f : Fin 1024) :
    k0_pay306 (F := Ideal) h u (ix2 r f) = max (∑ k : Fin 1024, h (ix2 r k) * u (ix3 0 k f)) 0 := by
  pointwise [k0_pay306]

theorem unit414_at (h : FVec Ideal S512x1024 .bf16) (u : FVec Ideal S1x1024x1024 .bf16) (r : Fin 512) (f : Fin 1024) :
    k0_pay414 (F := Ideal) h u (ix2 r f) = max (∑ k : Fin 1024, h (ix2 r k) * u (ix3 0 k f)) 0 := by
  pointwise [k0_pay414]

theorem add158_at (y a : FVec Ideal S512x1024 .f32) (v : FVec Ideal S1x1024x1024 .bf16) (r : Fin 512) (d : Fin 1024) :
    k0_pay158 (F := Ideal) y a v (ix2 r d)
      = y (ix2 r d) + ∑ f : Fin 1024, a (ix2 r f) * a (ix2 r f) * v (ix3 0 f d) := by
  pointwise [k0_pay158]

theorem add359_at (y a : FVec Ideal S512x1024 .f32) (v : FVec Ideal S1x1024x1024 .bf16) (r : Fin 512) (d : Fin 1024) :
    k0_pay359 (F := Ideal) y a v (ix2 r d)
      = y (ix2 r d) + ∑ f : Fin 1024, a (ix2 r f) * a (ix2 r f) * v (ix3 0 f d) := by
  pointwise [k0_pay359]

theorem add3_at (y a : FVec Ideal S512x1024 .f32) (v : FVec Ideal S1x1024x1024 .bf16) (r : Fin 512) (d : Fin 1024) :
    k0_pay3 (F := Ideal) y a v (ix2 r d)
      = y (ix2 r d) + ∑ f : Fin 1024, a (ix2 r f) * a (ix2 r f) * v (ix3 0 f d) := by
  pointwise [k0_pay3]

theorem add254_at (y a : FVec Ideal S512x1024 .f32) (v : FVec Ideal S1x1024x1024 .bf16) (r : Fin 512) (d : Fin 1024) :
    k0_pay254 (F := Ideal) y (k0_pay252 a) (k0_pay253 v) (constant S512x1024 .f32 0#32) (ix2 r d)
      = y (ix2 r d) + ∑ f : Fin 1024, a (ix2 r f) * a (ix2 r f) * v (ix3 0 f d) := by
  pointwise [k0_pay254, k0_pay252, k0_pay253]

theorem resid_at (x0 : FVec Ideal S512x1024 .f32) (x1 : FVec Ideal S512x1024 .bf16) (x2 : FVec Ideal S1024x1024 .bf16)
    (r : Fin 512) (d : Fin 1024) :
    k0_pay54 (F := Ideal) x0 x1 x2 (ix2 r d)
      = resid (fun d => x0 (ix2 r d)) (fun k => x1 (ix2 r k)) (fun k d => x2 (ix2 k d)) d := by
  pointwise [k0_pay54, resid]

theorem normed_at (x0 : FVec Ideal S512x1024 .f32) (x1 : FVec Ideal S512x1024 .bf16) (x2 : FVec Ideal S1024x1024 .bf16)
    (x3 : FVec Ideal S1x1024 .f32) (r : Fin 512) (d : Fin 1024) :
    k0_pay55 (F := Ideal) x0 x1 x2 x3 (ix2 r d)
      = normed (resid (fun d => x0 (ix2 r d)) (fun k => x1 (ix2 r k)) (fun k d => x2 (ix2 k d)))
          (fun d => x3 (ix2 0 d)) d := by
  pointwise [k0_pay55, resid_at, normed]

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x4096 .bf16) (harg12 : arg12.IsWhole) (arg13 : Memref sig .tc .vmem S1x4096x1024 .bf16) (harg13 : arg13.IsWhole) (arg14 : Memref sig .tc .vmem S512x1024 .f32) (harg14 : arg14.IsWhole) (arg15 : Memref sig .tc .vmem S512x1024 .bf16) (harg15 : arg15.IsWhole)
  (x0 : Vec Ideal S512x1024 .f32) (x1 : Vec Ideal S512x1024 .f32) (x2 : Vec Ideal S512x1024 .bf16) (x3 : Vec Ideal S512x1024 .bf16) (x4 : Vec Ideal S512x1024 .bf16) (x5 : Vec Ideal S512x1024 .bf16) (x6 : Vec Ideal S1x1024 .f32) (x7 : Vec Ideal S1x1024 .f32) (x8 : Vec Ideal S1x1024 .f32) (x9 : Vec Ideal S1024x1024 .bf16) (x10 : Vec Ideal S1x1024 .f32) (x11 : Vec Ideal S1x1024x4096 .bf16) (x12 : Vec Ideal S1x4096x1024 .bf16)

theorem tail (hc0 : ¬cond0_0 i) (hc1 : cond0_1 i) (xs0 : Vec Ideal S512x1024 .bf16) (r : Fin 512) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0).1 (ix2 r d)
      = rowOut (fun d => x0 (ix2 r d)) (fun k => xs0 (ix2 r k)) (fun k d => x9 (ix2 k d)) (fun d => x10 (ix2 0 d))
          (fun k f => x11 (ix3 0 k f)) (fun f d => x12 (ix3 0 f d)) d := by
  frame_out
  rw [add3_at, add359_at, add254_at, add158_at, resid_at]
  simp only [unit107_at, unit203_at, unit306_at, unit414_at, normed_at]
  pointwise [rowOut]
  exact add_tiles _ (fun f => unitOut (normed (resid (fun d => x0 (ix2 r d)) (fun k => xs0 (ix2 r k)) fun k d => x9 (ix2 k d))
    (fun d => x10 (ix2 0 d))) (fun k => x11 (ix3 0 k f)) * x12 (ix3 0 f d))

end Cert.Kernel3Ideal.Rwkv

end
-- ==== Proof.Rwkv.Blocks.lean ====
module

public import proofs.«01_k».proof.Proof.Rwkv.First
public import proofs.«01_k».proof.Proof.Rwkv.Later
public import proofs.«01_k».proof.Proof.Rwkv.Tail
public import proofs.«01_k».proof.Proof.Gen.Kernel3Ideal.Value

@[expose] public section

set_option maxRecDepth 16384

noncomputable section

/-! The result array of the first layer's output stage and MLP: each grid point works on the rows whose mixed rows the
point before put in the scratch. -/

namespace Cert.Kernel3Ideal.Rwkv

open Cert.Kernel3Ideal Cert.Kernel3Ideal.Gen Idealize.ShloMosaic Idealize.ShloMosaic.TcCoe Idealize.SL.Sem
open Idealize.ShloMosaic.Pipeline (Dat)
open Cert.Mlp Cert.Rwkv

variable (m : (ℓ : Loc nD τ sig) → Buf (Elt Ideal) ℓ)

/-- What every grid point leaves in the scratch: the mixed rows of its block. -/
theorem scratch (c : Dev nD) (t : Fin cfg0.N) (r : Fin 512) (d : Fin 1024) :
    (outsAt0 m c t.val t.isLt).2 (ix2 r d)
      = mixRow (fun j => iblk m c 1 (t) (ix2 r j)) (fun j => iblk m c 2 (t) (ix2 r j)) (fun j => iblk m c 3 (t) (ix2 r j)) (fun j => iblk m c 4 (t) (ix2 r j)) (fun j => iblk m c 5 (t) (ix2 r j))
        (fun j => iblk m c 6 (t) (ix2 0 j)) (fun j => iblk m c 7 (t) (ix2 0 j)) (fun j => iblk m c 8 (t) (ix2 0 j)) d := by
  by_cases h1 : 1 ≤ t.val
  · have h0 : ¬t.val % 33 = 0 := by
      have := t.isLt
      have hN : cfg0.N = 33 := by decide
      omega
    rw [outsAt0_B m c t h0 h1]
    dsimp only
    unfold sout0_B_0
    rw [View.read_writes_junk_eq_canon]
    exact later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0_0 t).mp h)) ((hcond0_1 t).mpr h1) (outsAt0 m c (t.val - 1) (Nat.lt_of_le_of_lt (Nat.sub_le _ _) t.isLt)).2 r d
  · have h0 : t.val % 33 = 0 := by omega
    rw [outsAt0_A m c t h0 h1]
    dsimp only
    unfold sout0_A_0
    rw [View.read_writes_junk_eq_canon]
    exact (congrFun (found c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (fun h => h1 ((hcond0_1 t).mp h))) (ix2 r d)).trans
      (stage_at fits512 (.inr rfl) _ _ _ _ _ _ _ _ r d)

/-- What every later grid point leaves in its result block, from its operands and the scratch of the point before. -/
theorem block (c : Dev nD) (t : Fin cfg0.N) (h1 : 1 ≤ t.val) (r : Fin 512) (d : Fin 1024) :
    (outsAt0 m c t.val t.isLt).1 (ix2 r d)
      = rowOut (fun d => iblk m c 0 t (ix2 r d))
          (mixRow (fun j => iblk m c 1 (⟨t.val - 1, Nat.lt_of_le_of_lt (Nat.sub_le _ _) t.isLt⟩ : Fin cfg0.N) (ix2 r j)) (fun j => iblk m c 2 (⟨t.val - 1, Nat.lt_of_le_of_lt (Nat.sub_le _ _) t.isLt⟩ : Fin cfg0.N) (ix2 r j)) (fun j => iblk m c 3 (⟨t.val - 1, Nat.lt_of_le_of_lt (Nat.sub_le _ _) t.isLt⟩ : Fin cfg0.N) (ix2 r j)) (fun j => iblk m c 4 (⟨t.val - 1, Nat.lt_of_le_of_lt (Nat.sub_le _ _) t.isLt⟩ : Fin cfg0.N) (ix2 r j)) (fun j => iblk m c 5 (⟨t.val - 1, Nat.lt_of_le_of_lt (Nat.sub_le _ _) t.isLt⟩ : Fin cfg0.N) (ix2 r j))
        (fun j => iblk m c 6 (⟨t.val - 1, Nat.lt_of_le_of_lt (Nat.sub_le _ _) t.isLt⟩ : Fin cfg0.N) (ix2 0 j)) (fun j => iblk m c 7 (⟨t.val - 1, Nat.lt_of_le_of_lt (Nat.sub_le _ _) t.isLt⟩ : Fin cfg0.N) (ix2 0 j)) (fun j => iblk m c 8 (⟨t.val - 1, Nat.lt_of_le_of_lt (Nat.sub_le _ _) t.isLt⟩ : Fin cfg0.N) (ix2 0 j)))
          (fun k d => iblk m c 9 t (ix2 k d)) (fun d => iblk m c 10 t (ix2 0 d))
          (fun k f => iblk m c 11 t (ix3 0 k f)) (fun f d => iblk m c 12 t (ix3 0 f d)) d := by
  have h0 : ¬t.val % 33 = 0 := by
    have := t.isLt
    have hN : cfg0.N = 33 := by decide
    omega
  rw [outsAt0_B m c t h0 h1]
  dsimp only
  unfold out0_B_13
  rw [View.read_writes_junk_eq_canon]
  refine (tail c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0_0 t).mp h)) ((hcond0_1 t).mpr h1) (outsAt0 m c (t.val - 1) (Nat.lt_of_le_of_lt (Nat.sub_le _ _) t.isLt)).2 r d).trans ?_
  refine congrArg (fun a => rowOut _ a _ _ _ _ d) (funext fun k => ?_)
  exact scratch m c ⟨t.val - 1, Nat.lt_of_le_of_lt (Nat.sub_le _ _) t.isLt⟩ r k

end Cert.Kernel3Ideal.Rwkv

end
-- ==== Proof.Rwkv.Entry.lean ====
module

public import proofs.«01_k».proof.Proof.Gen.Kernel3Ideal.Value
public import proofs.«01_k».proof.Proof.Rwkv.Spec

@[expose] public section

set_option maxRecDepth 16384

noncomputable section

/-! What the launch is given and where each block lies, and the result array of the first layer's output stage and MLP: each grid point works on the rows whose mixed rows the
point before put in the scratch. -/

namespace Cert.Kernel3Ideal.Rwkv

open Cert.Kernel3Ideal Cert.Kernel3Ideal.Gen Idealize.ShloMosaic Idealize.ShloMosaic.TcCoe Idealize.SL.Sem
open Idealize.ShloMosaic.Pipeline (Dat)
open Cert.Mlp Cert.Rwkv

variable (m : (ℓ : Loc nD τ sig) → Buf (Elt Ideal) ℓ)

theorem V8 (c : Dev nD) (i : S16384x1024.Idx) : (V m c main_v8 : FVec Ideal S16384x1024 .f32) i
    = (m ⟨c, main_arg0⟩ : FVec Ideal S8x2048x1024 .f32) (ix3 ⟨(i 0).val / 2048, by have := (i 0).isLt; simp at this; omega⟩ ⟨(i 0).val % 2048, by omega⟩ (i 1)) := by
  entry_read
  idx_vars i
  pointwise []

theorem V9 (c : Dev nD) (i : S16384x1024.Idx) : (V m c main_v9 : FVec Ideal S16384x1024 .f32) i
    = (m ⟨c, main_arg1⟩ : FVec Ideal S8x2048x1024 .f32) (ix3 ⟨(i 0).val / 2048, by have := (i 0).isLt; simp at this; omega⟩ ⟨(i 0).val % 2048, by omega⟩ (i 1)) := by
  entry_read
  idx_vars i
  pointwise []

theorem V0 (c : Dev nD) (i : S16384x1024.Idx) : (V m c main_v0 : FVec Ideal S16384x1024 .bf16) i
    = (m ⟨c, main_arg2⟩ : FVec Ideal S8x2048x1024 .bf16) (ix3 ⟨(i 0).val / 2048, by have := (i 0).isLt; simp at this; omega⟩ ⟨(i 0).val % 2048, by omega⟩ (i 1)) := by
  entry_read
  idx_vars i
  pointwise []

theorem V1 (c : Dev nD) (i : S16384x1024.Idx) : (V m c main_v1 : FVec Ideal S16384x1024 .bf16) i
    = (m ⟨c, main_arg3⟩ : FVec Ideal S8x2048x1024 .bf16) (ix3 ⟨(i 0).val / 2048, by have := (i 0).isLt; simp at this; omega⟩ ⟨(i 0).val % 2048, by omega⟩ (i 1)) := by
  entry_read
  idx_vars i
  pointwise []

theorem V2 (c : Dev nD) (i : S16384x1024.Idx) : (V m c main_v2 : FVec Ideal S16384x1024 .bf16) i
    = (m ⟨c, main_arg4⟩ : FVec Ideal S8x2048x1024 .bf16) (ix3 ⟨(i 0).val / 2048, by have := (i 0).isLt; simp at this; omega⟩ ⟨(i 0).val % 2048, by omega⟩ (i 1)) := by
  entry_read
  idx_vars i
  pointwise []

theorem V3 (c : Dev nD) (i : S16384x1024.Idx) : (V m c main_v3 : FVec Ideal S16384x1024 .bf16) i
    = (m ⟨c, main_arg5⟩ : FVec Ideal S8x2048x1024 .bf16) (ix3 ⟨(i 0).val / 2048, by have := (i 0).isLt; simp at this; omega⟩ ⟨(i 0).val % 2048, by omega⟩ (i 1)) := by
  entry_read
  idx_vars i
  pointwise []

theorem V17 (c : Dev nD) (i : S1x1024.Idx) : (V m c main_v17 : FVec Ideal S1x1024 .f32) i
    = (m ⟨c, main_arg6⟩ : FVec Ideal S1x16x64 .f32) (ix3 0 ⟨(i 1).val / 64, by have := (i 1).isLt; simp at this; omega⟩ ⟨(i 1).val % 64, by omega⟩) := by
  entry_read
  idx_vars i
  pointwise []

theorem V18 (c : Dev nD) (i : S1x1024.Idx) : (V m c main_v18 : FVec Ideal S1x1024 .f32) i
    = (m ⟨c, main_arg7⟩ : FVec Ideal S1x1024 .f32) (ix2 0 (i 1)) := by
  entry_read
  idx_vars i
  pointwise []

theorem V19 (c : Dev nD) (i : S1x1024.Idx) : (V m c main_v19 : FVec Ideal S1x1024 .f32) i
    = (m ⟨c, main_arg8⟩ : FVec Ideal S1x1024 .f32) (ix2 0 (i 1)) := by
  entry_read
  idx_vars i
  pointwise []

theorem V11 (c : Dev nD) (i : S1024x1024.Idx) : (V m c main_v11 : FVec Ideal S1024x1024 .bf16) i
    = (m ⟨c, main_arg9⟩ : FVec Ideal S1x1024x1024 .f32) (ix3 0 (i 0) (i 1)) := by
  entry_read
  idx_vars i
  pointwise []

theorem V16 (c : Dev nD) (i : S1x1024.Idx) : (V m c main_v16 : FVec Ideal S1x1024 .f32) i
    = (m ⟨c, main_arg10⟩ : FVec Ideal S2x1024 .f32) (ix2 0 (i 1)) := by
  entry_read
  idx_vars i
  pointwise []

theorem V14 (c : Dev nD) (i : S2x1024x4096.Idx) : (V m c main_v14 : FVec Ideal S2x1024x4096 .bf16) i
    = (m ⟨c, main_arg11⟩ : FVec Ideal S2x1024x4096 .f32) i := by
  entry_read
  pointwise []

theorem V15 (c : Dev nD) (i : S2x4096x1024.Idx) : (V m c main_v15 : FVec Ideal S2x4096x1024 .bf16) i
    = (m ⟨c, main_arg12⟩ : FVec Ideal S2x4096x1024 .f32) i := by
  entry_read
  pointwise []

theorem idx : ∀ t : Fin cfg0.N, win0_0.index t = ![t.val - 1, 0] ∧ win0_9.index t = ![0, 0] ∧ win0_10.index t = ![0, 0]
    ∧ win0_11.index t = ![0, 0, 0] ∧ win0_12.index t = ![0, 0, 0] ∧ win0_13.index t = ![t.val - 1, 0] :=
  (by decide +kernel : ∀ t : Fin grid0.N, _)

theorem idx_prev : ∀ t : Fin cfg0.N, win0_1.index (⟨t.val - 1, Nat.lt_of_le_of_lt (Nat.sub_le _ _) t.isLt⟩) = ![t.val - 1, 0] ∧ win0_2.index (⟨t.val - 1, Nat.lt_of_le_of_lt (Nat.sub_le _ _) t.isLt⟩) = ![t.val - 1, 0]
    ∧ win0_3.index (⟨t.val - 1, Nat.lt_of_le_of_lt (Nat.sub_le _ _) t.isLt⟩) = ![t.val - 1, 0] ∧ win0_4.index (⟨t.val - 1, Nat.lt_of_le_of_lt (Nat.sub_le _ _) t.isLt⟩) = ![t.val - 1, 0]
    ∧ win0_5.index (⟨t.val - 1, Nat.lt_of_le_of_lt (Nat.sub_le _ _) t.isLt⟩) = ![t.val - 1, 0] ∧ win0_6.index (⟨t.val - 1, Nat.lt_of_le_of_lt (Nat.sub_le _ _) t.isLt⟩) = ![0, 0] ∧ win0_7.index (⟨t.val - 1, Nat.lt_of_le_of_lt (Nat.sub_le _ _) t.isLt⟩) = ![0, 0]
    ∧ win0_8.index (⟨t.val - 1, Nat.lt_of_le_of_lt (Nat.sub_le _ _) t.isLt⟩) = ![0, 0] :=
  (by decide +kernel : ∀ t : Fin grid0.N, _)

/-- The result array at a row and a column, from the arrays the launch is given. -/
def outAt (X Y : FVec Ideal S8x2048x1024 .f32) (R K P G : FVec Ideal S8x2048x1024 .bf16)
    (w : FVec Ideal S1x16x64 .f32) (lw lb : FVec Ideal S1x1024 .f32) (W : FVec Ideal S1x1024x1024 .f32)
    (g : FVec Ideal S2x1024 .f32) (U : FVec Ideal S2x1024x4096 .f32) (D : FVec Ideal S2x4096x1024 .f32)
    (b : Fin 8) (s : Fin 2048) (d : Fin 1024) : EReal :=
  rowOut (fun d => X (ix3 b s d)) (mixRow (fun j => Y (ix3 b s j)) (fun j => R (ix3 b s j)) (fun j => K (ix3 b s j))
      (fun j => P (ix3 b s j)) (fun j => G (ix3 b s j)) (fun j => w (ix3 0 ⟨j.val / 64, by omega⟩ ⟨j.val % 64, by omega⟩))
      (fun j => lw (ix2 0 j)) (fun j => lb (ix2 0 j)))
    (fun k d => W (ix3 0 k d)) (fun d => g (ix2 0 d)) (fun k f => U (ix3 0 k f)) (fun f d => D (ix3 0 f d)) d

/-- The result array of the whole launch. -/
def OUT (X Y : FVec Ideal S8x2048x1024 .f32) (R K P G : FVec Ideal S8x2048x1024 .bf16)
    (w : FVec Ideal S1x16x64 .f32) (lw lb : FVec Ideal S1x1024 .f32) (W : FVec Ideal S1x1024x1024 .f32)
    (g : FVec Ideal S2x1024 .f32) (U : FVec Ideal S2x1024x4096 .f32) (D : FVec Ideal S2x4096x1024 .f32) :
    FVec Ideal S16384x1024 .f32 :=
  fun i => outAt X Y R K P G w lw lb W g U D ⟨(i 0).val / 2048, by have := (i 0).isLt; simp at this; omega⟩
    ⟨(i 0).val % 2048, by omega⟩ (i 1)

end Cert.Kernel3Ideal.Rwkv

end
-- ==== Proof.Rwkv.Kernel.lean ====
module

public import proofs.«01_k».proof.Proof.Rwkv.Blocks
public import proofs.«01_k».proof.Proof.Rwkv.Entry

@[expose] public section

set_option maxRecDepth 16384

noncomputable section

/-! The result array of the first layer's output stage and MLP: each grid point works on the rows whose mixed rows the
point before put in the scratch. -/

namespace Cert.Kernel3Ideal.Rwkv

open Cert.Kernel3Ideal Cert.Kernel3Ideal.Gen Idealize.ShloMosaic Idealize.ShloMosaic.TcCoe Idealize.SL.Sem
open Idealize.ShloMosaic.Pipeline (Dat)
open Cert.Mlp Cert.Rwkv

variable (m : (ℓ : Loc nD τ sig) → Buf (Elt Ideal) ℓ)

theorem final (c : Dev nD) : (dats m 0 c).arrAt 13 (cfgs 0).N
    = OUT (m ⟨c, main_arg0⟩) (m ⟨c, main_arg1⟩) (m ⟨c, main_arg2⟩) (m ⟨c, main_arg3⟩) (m ⟨c, main_arg4⟩) (m ⟨c, main_arg5⟩) (m ⟨c, main_arg6⟩) (m ⟨c, main_arg7⟩) (m ⟨c, main_arg8⟩) (m ⟨c, main_arg9⟩) (m ⟨c, main_arg10⟩) (m ⟨c, main_arg11⟩) (m ⟨c, main_arg12⟩) := by
  refine (dats m 0 c).arrAt_eq_of_covers 13 _ (by decide +kernel) fun t ht y => ?_
  have h1 : 1 ≤ t.val := (by decide +kernel : ∀ t : Fin cfg0.N, (cfg0.win 13).flush t = true → 1 ≤ t.val) t ht
  blk_simp
  rw [after0_13]
  idx_vars y
  rw [block m c t h1]
  pointwise [OUT, outAt, rowOut]
  blk_point [iblk, idx t, idx_prev t, V8 m c, V9 m c, V0 m c, V1 m c, V2 m c, V3 m c, V17 m c, V18 m c, V19 m c, V11 m c, V16 m c, V14 m c, V15 m c]

end Cert.Kernel3Ideal.Rwkv

end
-- ==== Proof.Rwkv.Reference.lean ====
module

public import proofs.«01_k».proof.Proof.Mlp.Spec
public import proofs.«01_k».proof.Proof.Rwkv.Spec
public import proofs.«01_k».proof.Proof.Gen.Reference3Ideal.Run
public import Idealize.ShloMosaic.Lib.Pipeline.ValueKit

@[expose] public section

set_option maxRecDepth 16384

noncomputable section

/-! What the plain reference of the first layer's output stage and MLP leaves in its result, row by row. -/

namespace Cert.Reference3Ideal.Rwkv

open Cert.Reference3Ideal Cert.Reference3Ideal.Gen Idealize.ShloMosaic Idealize.ShloMosaic.TcCoe Idealize.SL.Sem
open Cert.Mlp Cert.Rwkv

variable (X Y : FVec Ideal S8x2048x1024 .f32) (R K P G : FVec Ideal S8x2048x1024 .bf16)
  (w : FVec Ideal S1x16x64 .f32) (lw lb : FVec Ideal S1x1024 .f32) (W : FVec Ideal S1x1024x1024 .f32)
  (g : FVec Ideal S2x1024 .f32) (U : FVec Ideal S2x1024x4096 .f32) (D : FVec Ideal S2x4096x1024 .f32)

/-- The sum over each head's lanes, spread back to the lanes. -/
def total (Z : FVec Ideal S8x2048x16x64 .f32) : FVec Ideal S8x2048x16x1 .f32 :=
  broadcastInDim S8x2048x16x1 ![0, 1, 2] bcast_S8x2048x16_S8x2048x16x1_0_1_2 (Host.reduceAdd Z
    (constant S_ .f32 0x00000000#32) reducesTo_S8x2048x16x64_S8x2048x16_d3 h_S_)

/-- The mean over each head's lanes. -/
def mean (Z : FVec Ideal S8x2048x16x64 .f32) : FVec Ideal S8x2048x16x1 .f32 :=
  Host.divf (total Z) (broadcastInDim S8x2048x16x1 ![] bcast_S_S8x2048x16x1 (constant S_ .f32 0x42800000#32))

/-- A value per head, spread to its lanes. -/
def spread (Z : FVec Ideal S8x2048x16x1 .f32) : FVec Ideal S8x2048x16x64 .f32 :=
  broadcastInDim S8x2048x16x64 ![0, 1, 2, 3] bcast_S8x2048x16x1_S8x2048x16x64_0_1_2_3 Z

/-- An array of rows, split into heads. -/
def split (Z : FVec Ideal S8x2048x1024 .f32) : FVec Ideal S8x2048x16x64 .f32 :=
  shapeCast _ Z shapeCasts_S8x2048x1024_S8x2048x16x64

/-- Heads joined back into rows. -/
def join (Z : FVec Ideal S8x2048x16x64 .f32) : FVec Ideal S8x2048x1024 .f32 :=
  shapeCast _ Z shapeCasts_S8x2048x16x64_S8x2048x1024

/-- A row vector repeated over all rows. -/
def repeated (z : FVec Ideal S1x1024 .f32) : FVec Ideal S8x2048x1024 .f32 :=
  broadcastInDim S8x2048x1024 ![0, 1, 2] bcast_S1x1x1024_S8x2048x1024_0_1_2 (broadcastInDim S1x1x1024 ![2]
    bcast_S1024_S1x1x1024_2 (shapeCast _ z shapeCasts_S1x1024_S1024))

/-- The heads with their mean taken off. -/
def CEN : FVec Ideal S8x2048x16x64 .f32 := subf (split Y) (spread (mean (split Y)))

/-- The heads after the group norm. -/
def NOR : FVec Ideal S8x2048x16x64 .f32 :=
  mulf (CEN Y) (spread (Host.rsqrt (addf (mean (mulf (CEN Y) (CEN Y)))
    (broadcastInDim S8x2048x16x1 ![] bcast_S_S8x2048x16x1 (constant S_ .f32 0x3A27C5AC#32)))))

/-- The bonus of each head's value. -/
def BON : FVec Ideal S8x2048x16x64 .f32 :=
  mulf (spread (total (mulf (mulf (split (extf .f32 R bitsLt_bf16_f32)) (split (extf .f32 K bitsLt_bf16_f32)))
    (broadcastInDim S8x2048x16x64 ![0, 1, 2, 3] bcast_S1x1x16x64_S8x2048x16x64_0_1_2_3 (broadcastInDim S1x1x16x64 ![2, 3]
      bcast_S16x64_S1x1x16x64_2_3 (shapeCast _ w shapeCasts_S1x16x64_S16x64)))))) (split (extf .f32 P bitsLt_bf16_f32))

/-- The mixed rows. -/
def MIX : FVec Ideal S8x2048x1024 .f32 :=
  mulf (addf (addf (mulf (join (NOR Y)) (repeated lw)) (repeated lb)) (join (BON R K P w))) (extf .f32 G bitsLt_bf16_f32)

theorem total_at (Z : FVec Ideal S8x2048x16x64 .f32) (b : Fin 8) (s : Fin 2048) (h : Fin 16) :
    total Z (ix4 b s h 0) = ∑ l : Fin 64, Z (ix4 b s h l) := by
  pointwise [total]

theorem mean_at (Z : FVec Ideal S8x2048x16x64 .f32) (b : Fin 8) (s : Fin 2048) (h : Fin 16) :
    mean Z (ix4 b s h 0) = (∑ l : Fin 64, Z (ix4 b s h l)) * Ideal.ofBits .f32 0x3C800000#32 := by
  rw [← div_64]
  pointwise [mean, total]

theorem spread_at (Z : FVec Ideal S8x2048x16x1 .f32) (b : Fin 8) (s : Fin 2048) (h : Fin 16) (l : Fin 64) :
    spread Z (ix4 b s h l) = Z (ix4 b s h 0) := by
  pointwise [spread]

theorem split_at (Z : FVec Ideal S8x2048x1024 .f32) (b : Fin 8) (s : Fin 2048) (h : Fin 16) (l : Fin 64) :
    split Z (ix4 b s h l) = Z (ix3 b s ⟨h.val * 64 + l.val, by omega⟩) := by
  pointwise [split]

theorem join_at (Z : FVec Ideal S8x2048x16x64 .f32) (b : Fin 8) (s : Fin 2048) (d : Fin 1024) :
    join Z (ix3 b s d) = Z (ix4 b s ⟨d.val / 64, by omega⟩ ⟨d.val % 64, by omega⟩) := by
  pointwise [join]

theorem repeated_at (z : FVec Ideal S1x1024 .f32) (b : Fin 8) (s : Fin 2048) (d : Fin 1024) :
    repeated z (ix3 b s d) = z (ix2 0 d) := by
  pointwise [repeated]

/-- The reference's normed array, from a residual array. -/
def NRM (Y : FVec Ideal S8x2048x1024 .f32) : FVec Ideal S8x2048x1024 .f32 :=
  mulf (mulf Y (broadcastInDim S8x2048x1024 ![0, 1, 2] bcast_S8x2048x1_S8x2048x1024_0_1_2 (Host.rsqrt (addf
    (Host.divf (broadcastInDim S8x2048x1 ![0, 1] bcast_S8x2048_S8x2048x1_0_1 (Host.reduceAdd (mulf Y Y)
      (constant S_ .f32 0x00000000#32) reducesTo_S8x2048x1024_S8x2048_d2 h_S_))
      (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2]
      bcast_S1024_S1x1x1024_2 (shapeCast _ (extractStridedSlice S1x1024 ![0, 0] g slices_S2x1024_S1x1024_0_0)
        shapeCasts_S1x1024_S1024)))

theorem NRM_at (Y : FVec Ideal S8x2048x1024 .f32) (b : Fin 8) (s : Fin 2048) (d : Fin 1024) : NRM g Y (ix3 b s d)
    = normed (fun d => Y (ix3 b s d)) (fun d => g (ix2 0 d)) d := by
  pointwise [NRM, normed]

/-- The reference's hidden array, from a normed array. -/
def HID (N : FVec Ideal S8x2048x1024 .f32) : FVec Ideal S8x2048x4096 .f32 :=
  mulf (maximumf (Host.dotGeneral dot_S8x2048x1024_S1024x4096_S8x2048x4096_2_0_01_1_n_n none N
      (shapeCast _ (extractStridedSlice S1x1024x4096 ![0, 0, 0] U slices_S2x1024x4096_S1x1024x4096_0_0_0)
        shapeCasts_S1x1024x4096_S1024x4096)) (broadcastInDim S8x2048x4096 ![] bcast_S_S8x2048x4096 (constant S_ .f32 0x00000000#32)))
    (maximumf (Host.dotGeneral dot_S8x2048x1024_S1024x4096_S8x2048x4096_2_0_01_1_n_n none N
      (shapeCast _ (extractStridedSlice S1x1024x4096 ![0, 0, 0] U slices_S2x1024x4096_S1x1024x4096_0_0_0)
        shapeCasts_S1x1024x4096_S1024x4096)) (broadcastInDim S8x2048x4096 ![] bcast_S_S8x2048x4096 (constant S_ .f32 0x00000000#32)))

theorem HID_at (N : FVec Ideal S8x2048x1024 .f32) (b : Fin 8) (s : Fin 2048) (f : Fin 4096) : HID U N (ix3 b s f)
    = unitOut (fun k => N (ix3 b s k)) (fun k => U (ix3 0 k f)) := by
  pointwise [HID, unitOut]

/-- The reference's result before its last reshape, from a residual and a hidden array. -/
def LAST (Y : FVec Ideal S8x2048x1024 .f32) (H : FVec Ideal S8x2048x4096 .f32) : FVec Ideal S8x2048x1024 .f32 :=
  addf Y (Host.dotGeneral dot_S8x2048x4096_S4096x1024_S8x2048x1024_2_0_01_1_n_n none H
    (shapeCast _ (extractStridedSlice S1x4096x1024 ![0, 0, 0] D slices_S2x4096x1024_S1x4096x1024_0_0_0)
      shapeCasts_S1x4096x1024_S4096x1024))

theorem LAST_at (Y : FVec Ideal S8x2048x1024 .f32) (H : FVec Ideal S8x2048x4096 .f32) (b : Fin 8) (s : Fin 2048)
    (d : Fin 1024) : LAST D Y H (ix3 b s d) = Y (ix3 b s d) + ∑ f : Fin 4096, H (ix3 b s f) * D (ix3 0 f d) := by
  pointwise [LAST]

/-- The lane of head `h` at place `l`. -/
def lane (h : Fin 16) (l : Fin 64) : Fin 1024 := ⟨h.val * 64 + l.val, by omega⟩

theorem head_eq (h : Fin 16) (l : Fin 64) (p) : (⟨(h.val * 64 + l.val) / 64, p⟩ : Fin 16) = h :=
  Fin.ext (by show (h.val * 64 + l.val) / 64 = h.val; omega)

theorem place_eq (h : Fin 16) (l : Fin 64) (p) : (⟨(h.val * 64 + l.val) % 64, p⟩ : Fin 64) = l :=
  Fin.ext (by show (h.val * 64 + l.val) % 64 = l.val; omega)

theorem lane_self (d : Fin 1024) : lane ⟨d.val / 64, by omega⟩ ⟨d.val % 64, by omega⟩ = d :=
  Fin.ext (by show d.val / 64 * 64 + d.val % 64 = d.val; omega)

theorem headSum_lane (f : Fin 1024 → EReal) (h : Fin 16) (l : Fin 64) :
    headSum f (lane h l) = ∑ e : Fin 64, f (lane h e) :=
  Finset.sum_congr rfl fun e _ => congrArg f (Fin.ext (by
    show (h.val * 64 + l.val) / 64 * 64 + e.val = h.val * 64 + e.val
    omega))

theorem CEN_at (b : Fin 8) (s : Fin 2048) (h : Fin 16) (l : Fin 64) :
    CEN Y (ix4 b s h l) = centred (fun j => Y (ix3 b s j)) (lane h l) := by
  have e : CEN Y (ix4 b s h l) = split Y (ix4 b s h l) - spread (mean (split Y)) (ix4 b s h l) := by pointwise [CEN]
  rw [e, spread_at, mean_at, split_at, centred, headSum_lane]
  simp only [split_at]
  rfl

theorem NOR_at (b : Fin 8) (s : Fin 2048) (h : Fin 16) (l : Fin 64) :
    NOR Y (ix4 b s h l) = centred (fun j => Y (ix3 b s j)) (lane h l)
      * Ideal.rsqrt (headSum (fun j => centred (fun j => Y (ix3 b s j)) j * centred (fun j => Y (ix3 b s j)) j) (lane h l)
          * Ideal.ofBits .f32 0x3C800000#32 + Ideal.ofBits .f32 0x3A27C5AC#32) := by
  have e : NOR Y (ix4 b s h l) = CEN Y (ix4 b s h l) * Ideal.rsqrt (mean (mulf (CEN Y) (CEN Y)) (ix4 b s h 0)
      + Ideal.ofBits .f32 0x3A27C5AC#32) := by pointwise [NOR, spread_at]
  have q : ∀ j, mulf (CEN Y) (CEN Y) (ix4 b s h j) = CEN Y (ix4 b s h j) * CEN Y (ix4 b s h j) := fun _ => rfl
  rw [e, mean_at, headSum_lane]
  simp only [q, CEN_at]

theorem BON_at (b : Fin 8) (s : Fin 2048) (h : Fin 16) (l : Fin 64) :
    BON R K P w (ix4 b s h l)
      = headSum (fun j => R (ix3 b s j) * K (ix3 b s j) * w (ix3 0 ⟨j.val / 64, by omega⟩ ⟨j.val % 64, by omega⟩)) (lane h l)
        * P (ix3 b s (lane h l)) := by
  rw [headSum_lane]
  pointwise [BON, spread_at, total_at, split_at, lane]
  simp only [head_eq, place_eq]

theorem MIX_at (b : Fin 8) (s : Fin 2048) (d : Fin 1024) :
    MIX Y R K P G w lw lb (ix3 b s d)
      = mixRow (fun j => Y (ix3 b s j)) (fun j => R (ix3 b s j)) (fun j => K (ix3 b s j)) (fun j => P (ix3 b s j))
          (fun j => G (ix3 b s j)) (fun j => w (ix3 0 ⟨j.val / 64, by omega⟩ ⟨j.val % 64, by omega⟩))
          (fun j => lw (ix2 0 j)) (fun j => lb (ix2 0 j)) d := by
  have e : MIX Y R K P G w lw lb (ix3 b s d) = (join (NOR Y) (ix3 b s d) * repeated lw (ix3 b s d) + repeated lb (ix3 b s d)
      + join (BON R K P w) (ix3 b s d)) * G (ix3 b s d) := by pointwise [MIX]
  rw [e, join_at, join_at, repeated_at, repeated_at, NOR_at, BON_at, lane_self]
  rfl

/-- The reference's residual array, from the mixed rows. -/
def RES (M : FVec Ideal S8x2048x1024 .f32) : FVec Ideal S8x2048x1024 .f32 :=
  addf X (Host.dotGeneral dot_S8x2048x1024_S1024x1024_S8x2048x1024_2_0_01_1_n_n none M
    (shapeCast _ W shapeCasts_S1x1024x1024_S1024x1024))

theorem RES_at (M : FVec Ideal S8x2048x1024 .f32) (b : Fin 8) (s : Fin 2048) (d : Fin 1024) : RES X W M (ix3 b s d)
    = resid (fun d => X (ix3 b s d)) (fun k => M (ix3 b s k)) (fun k d => W (ix3 0 k d)) d := by
  pointwise [RES, resid]

/-- The reference's whole result. -/
def WHOLE : FVec Ideal S16384x1024 .f32 :=
  shapeCast _ (LAST D (RES X W (MIX Y R K P G w lw lb)) (HID U (NRM g (RES X W (MIX Y R K P G w lw lb)))))
    shapeCasts_S8x2048x1024_S16384x1024

/-- The result at one row of one batch. -/
def outAt (b : Fin 8) (s : Fin 2048) (d : Fin 1024) : EReal :=
  rowOut (fun d => X (ix3 b s d)) (mixRow (fun j => Y (ix3 b s j)) (fun j => R (ix3 b s j)) (fun j => K (ix3 b s j))
      (fun j => P (ix3 b s j)) (fun j => G (ix3 b s j)) (fun j => w (ix3 0 ⟨j.val / 64, by omega⟩ ⟨j.val % 64, by omega⟩))
      (fun j => lw (ix2 0 j)) (fun j => lb (ix2 0 j)))
    (fun k d => W (ix3 0 k d)) (fun d => g (ix2 0 d)) (fun k f => U (ix3 0 k f)) (fun f d => D (ix3 0 f d)) d

theorem WHOLE_at (r : Fin 16384) (d : Fin 1024) : WHOLE X Y R K P G w lw lb W g U D (ix2 r d)
    = outAt X Y R K P G w lw lb W g U D ⟨r.val / 2048, by omega⟩ ⟨r.val % 2048, by omega⟩ d := by
  have h : WHOLE X Y R K P G w lw lb W g U D (ix2 r d) = LAST D (RES X W (MIX Y R K P G w lw lb))
      (HID U (NRM g (RES X W (MIX Y R K P G w lw lb)))) (ix3 ⟨r.val / 2048, by omega⟩ ⟨r.val % 2048, by omega⟩ d) := by
    pointwise [WHOLE]
  rw [h, LAST_at, RES_at]
  unfold outAt rowOut
  simp only [HID_at, NRM_at, RES_at, MIX_at]

end Cert.Reference3Ideal.Rwkv

end
-- ==== Proof.Rwkv.Claims.lean ====
module

public import proofs.«01_k».proof.Defs
public import proofs.«01_k».proof.Proof.Rwkv.Kernel
public import proofs.«01_k».proof.Proof.Rwkv.Reference
public import proofs.«01_k».proof.Proof.Gen.Kernel3.Frame
public import Idealize.ShloMosaic.Lib.Quiescent
public import Idealize.ShloMosaic.Lib.Claim

@[expose] public section

set_option maxRecDepth 16384

noncomputable section

/-! The claims about the first layer's output stage (`kernel3` of the test file), each as a theorem. -/

namespace Cert.Rwkv

open Idealize.ShloMosaic Idealize.SL.Sem

/-- The kernel runs, keeps its arguments and ends with every counter at zero. -/
theorem frame_kernel : Cert.quiescent_Kernel3 := fun m g _ => Cert.Kernel3.Gen.frame m g

/-- So does its reading over the extended reals. -/
theorem frame_ideal : Cert.quiescent_Kernel3Ideal := fun m g _ => Cert.Kernel3Ideal.Gen.frame m g

/-- So does the reference. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The two results are one array: each is the stage's function of a row, at every row. -/
theorem result_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) :
    Cert.Reference3Ideal.Value.res_main_v74 m' c
      = (Cert.Kernel3Ideal.Gen.dats m 0 c).arrAt 13 (Cert.Kernel3Ideal.cfgs 0).N := by
  rw [Cert.Kernel3Ideal.Rwkv.final m c]
  unfold Cert.Reference3Ideal.Value.res_main_v74
  rw [h0, h1, h2, h3, h4, h5, h6, h7, h8, h9, h10, h11, h12]
  funext i
  idx_vars i
  exact Cert.Reference3Ideal.Rwkv.WHOLE_at _ _ _ _ _ _ _ _ _ _ _ _ _ _ _

/-- From equal arguments the kernel and the reference both run and end with equal results. -/
theorem algebraic : Cert.algebraic_Kernel3Ideal_Reference3Ideal := by
  pair_intro
  · run_from Cert.Kernel3Ideal.Gen.run_main m g
  · run_from Cert.Reference3Ideal.Value.run m' g'
    obtain ⟨h0, h1, h2, h3, h4, h5, h6, h7, h8, h9, h10, h11, h12⟩ := hagree c
    exact result_eq m m' c h0 h1 h2 h3 h4 h5 h6 h7 h8 h9 h10 h11 h12

end Cert.Rwkv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Fox.Frames
public import proofs.«01_k».proof.Proof.Fox.Claims
public import proofs.«01_k».proof.Proof.Mlp.Claims
public import proofs.«01_k».proof.Proof.Rwkv.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite_logits.facts,
    Fox.frame_kernel, Fox.frame_ideal, Fox.frame_ideal_pre, Fox.frame_reference, Fox.frame_reference_pre,
    Mlp.frame_kernel, Mlp.frame_ideal, Mlp.frame_reference,
    Rwkv.frame_kernel, Rwkv.frame_ideal, Rwkv.frame_reference,
    Fox.preserves, Fox.algebraic, trivial, Mlp.algebraic, trivial, Rwkv.algebraic⟩

end Cert.Proof

end
